-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_v61) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ preserves_Kernel_KernelIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S12x1024x2560 : Shape := ⟨3, ![12, 1024, 2560]⟩
abbrev S2560 : Shape := ⟨1, ![2560]⟩
abbrev S_ : Shape := ⟨0, ![]⟩

class Facts : Prop where
  bcast_S_S2560 : S_.BroadcastsInDim S2560 (![] : Fin 0 → Fin S2560.rank)
  reducesTo_S2560_S_d0 : S2560.ReducesTo [0] S_
  h_S_ : 0 < S_.numel

variable [Facts]

def fn {F : FTy → Type} [FloatOps F] (main_arg0 : FVec F S12x1024x2560 .bf16) (main_arg1 : FVec F S12x1024x2560 .bf16) (main_arg2 : FVec F S2560 .f32) (main_arg3 : IVec S12x1024x2560 32) (main_arg4 : FVec F S2560 .f32) : IVec S_ 1 :=
  let main_v0 : FVec F S2560 .f32 := Host.absf main_arg4
  let main_cst : FVec F S_ .f32 := constant S_ .f32 0x7F7FFFFF#32
  let main_v1 : FVec F S2560 .f32 := broadcastInDim S2560 ![] bcast_S_S2560 main_cst
  let main_v2 : IVec S2560 1 := cmpf .ole main_v0 main_v1
  let main_c : IVec S_ 1 := constantI S_ 1 1#1
  let main_v3 : IVec S_ 1 := (fun x v => Host.reduce IntOp.andi x v reducesTo_S2560_S_d0 h_S_) main_v2 main_c
  main_v3
-- ==== Kernel.lean ====
abbrev S12x1024x2560 : Shape := ⟨3, ![12, 1024, 2560]⟩
abbrev S2560 : Shape := ⟨1, ![2560]⟩
abbrev S12288x2560 : Shape := ⟨2, ![12288, 2560]⟩
abbrev S1x2560 : Shape := ⟨2, ![1, 2560]⟩
abbrev S12x1024 : Shape := ⟨2, ![12, 1024]⟩
abbrev S12288x320 : Shape := ⟨2, ![12288, 320]⟩
abbrev S256x2560 : Shape := ⟨2, ![256, 2560]⟩
abbrev S256x320 : Shape := ⟨2, ![256, 320]⟩
abbrev S1024x128 : Shape := ⟨2, ![1024, 128]⟩
abbrev S32x2560 : Shape := ⟨2, ![32, 2560]⟩
abbrev S256x128 : Shape := ⟨2, ![256, 128]⟩
abbrev S32x128 : Shape := ⟨2, ![32, 128]⟩
abbrev S32x256 : Shape := ⟨2, ![32, 256]⟩
abbrev S1x256 : Shape := ⟨2, ![1, 256]⟩
abbrev S32x1024 : Shape := ⟨2, ![32, 1024]⟩
abbrev S32x512 : Shape := ⟨2, ![32, 512]⟩
abbrev S512x128 : Shape := ⟨2, ![512, 128]⟩
abbrev S32x64 : Shape := ⟨2, ![32, 64]⟩
abbrev S32 : Shape := ⟨1, ![32]⟩
abbrev S32x1 : Shape := ⟨2, ![32, 1]⟩
abbrev S128x128 : Shape := ⟨2, ![128, 128]⟩
abbrev S12x128 : Shape := ⟨2, ![12, 128]⟩
abbrev S128 : Shape := ⟨1, ![128]⟩
abbrev S1x128 : Shape := ⟨2, ![1, 128]⟩

abbrev nBuf : Space → Nat
  | .hbm => 15
  | .vmem => 20
  | .smem => 0
  | _ => 0

abbrev bufTy : (tb : Table) → Fin (tcTables nBuf tb) → BufTy
  | .hbm, ⟨0, _⟩ => ⟨S12x1024x2560, .bf16⟩
  | .hbm, ⟨1, _⟩ => ⟨S12x1024x2560, .bf16⟩
  | .hbm, ⟨2, _⟩ => ⟨S2560, .f32⟩
  | .hbm, ⟨3, _⟩ => ⟨S12x1024x2560, .i32⟩
  | .hbm, ⟨4, _⟩ => ⟨S2560, .f32⟩
  | .hbm, ⟨5, _⟩ => ⟨S12288x2560, .bf16⟩
  | .hbm, ⟨6, _⟩ => ⟨S12288x2560, .bf16⟩
  | .hbm, ⟨7, _⟩ => ⟨S1x2560, .f32⟩
  | .hbm, ⟨8, _⟩ => ⟨S12288x2560, .i32⟩
  | .hbm, ⟨9, _⟩ => ⟨S1x2560, .f32⟩
  | .hbm, ⟨10, _⟩ => ⟨S12288x2560, .fp8e4m3⟩
  | .hbm, ⟨11, _⟩ => ⟨S12x1024, .f32⟩
  | .hbm, ⟨12, _⟩ => ⟨S12288x320, .i8⟩
  | .hbm, ⟨13, _⟩ => ⟨S12x1024, .f32⟩
  | .hbm, ⟨14, _⟩ => ⟨S12288x2560, .bf16⟩
  | .local _ .vmem, ⟨0, _⟩ => ⟨S256x2560, .bf16⟩
  | .local _ .vmem, ⟨1, _⟩ => ⟨S256x2560, .bf16⟩
  | .local _ .vmem, ⟨2, _⟩ => ⟨S256x2560, .bf16⟩
  | .local _ .vmem, ⟨3, _⟩ => ⟨S256x2560, .bf16⟩
  | .local _ .vmem, ⟨4, _⟩ => ⟨S1x2560, .f32⟩
  | .local _ .vmem, ⟨5, _⟩ => ⟨S256x2560, .i32⟩
  | .local _ .vmem, ⟨6, _⟩ => ⟨S256x2560, .i32⟩
  | .local _ .vmem, ⟨7, _⟩ => ⟨S1x2560, .f32⟩
  | .local _ .vmem, ⟨8, _⟩ => ⟨S256x2560, .fp8e4m3⟩
  | .local _ .vmem, ⟨9, _⟩ => ⟨S256x2560, .fp8e4m3⟩
  | .local _ .vmem, ⟨10, _⟩ => ⟨S12x1024, .f32⟩
  | .local _ .vmem, ⟨11, _⟩ => ⟨S256x320, .i8⟩
  | .local _ .vmem, ⟨12, _⟩ => ⟨S256x320, .i8⟩
  | .local _ .vmem, ⟨13, _⟩ => ⟨S12x1024, .f32⟩
  | .local _ .vmem, ⟨14, _⟩ => ⟨S256x2560, .bf16⟩
  | .local _ .vmem, ⟨15, _⟩ => ⟨S256x2560, .bf16⟩
  | .local _ .vmem, ⟨16, _⟩ => ⟨S1024x128, .bf16⟩
  | .local _ .vmem, ⟨17, _⟩ => ⟨S32x2560, .f32⟩
  | .local _ .vmem, ⟨18, _⟩ => ⟨S256x128, .f32⟩
  | .local _ .vmem, ⟨19, _⟩ => ⟨S256x128, .f32⟩
  | _, _ => ⟨S12x1024x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg15 : BitVec 32 := Scf.iv c0_i32_1 c1_i32 k0_t1
  let c32_i32 : BitVec 32 := 32#32
  let v100 : BitVec 32 := Scalar.muli arg15 c32_i32
  v100
def k0_off1 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c32_i32 : BitVec 32 := 32#32
  let v100 : BitVec 32 := Scalar.muli arg15 c32_i32
  let v101 : BitVec 32 := v100
  let v103 : Index := Scalar.indexCast v101
  let c0_38 : Index := 0#32
  ![v103.toNat, 0]
def k0_off2 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c32_i32 : BitVec 32 := 32#32
  let v100 : BitVec 32 := Scalar.muli arg15 c32_i32
  let v101 : BitVec 32 := v100
  let v138 : Index := Scalar.indexCast v101
  let c256 : Index := 256#32
  ![v138.toNat, 256]
def k0_off3 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c32_i32 : BitVec 32 := 32#32
  let v100 : BitVec 32 := Scalar.muli arg15 c32_i32
  let v101 : BitVec 32 := v100
  let v173 : Index := Scalar.indexCast v101
  let c512 : Index := 512#32
  ![v173.toNat, 512]
def k0_off4 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c32_i32 : BitVec 32 := 32#32
  let v100 : BitVec 32 := Scalar.muli arg15 c32_i32
  let v101 : BitVec 32 := v100
  let v208 : Index := Scalar.indexCast v101
  let c768 : Index := 768#32
  ![v208.toNat, 768]
def k0_off5 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c32_i32 : BitVec 32 := 32#32
  let v100 : BitVec 32 := Scalar.muli arg15 c32_i32
  let v101 : BitVec 32 := v100
  let v243 : Index := Scalar.indexCast v101
  let c1024 : Index := 1024#32
  ![v243.toNat, 1024]
def k0_off6 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c32_i32 : BitVec 32 := 32#32
  let v100 : BitVec 32 := Scalar.muli arg15 c32_i32
  let v101 : BitVec 32 := v100
  let v278 : Index := Scalar.indexCast v101
  let c1280 : Index := 1280#32
  ![v278.toNat, 1280]
def k0_off7 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c32_i32 : BitVec 32 := 32#32
  let v100 : BitVec 32 := Scalar.muli arg15 c32_i32
  let v101 : BitVec 32 := v100
  let v313 : Index := Scalar.indexCast v101
  let c1536 : Index := 1536#32
  ![v313.toNat, 1536]
def k0_off8 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c32_i32 : BitVec 32 := 32#32
  let v100 : BitVec 32 := Scalar.muli arg15 c32_i32
  let v101 : BitVec 32 := v100
  let v348 : Index := Scalar.indexCast v101
  let c1792 : Index := 1792#32
  ![v348.toNat, 1792]
def k0_off9 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c32_i32 : BitVec 32 := 32#32
  let v100 : BitVec 32 := Scalar.muli arg15 c32_i32
  let v101 : BitVec 32 := v100
  let v383 : Index := Scalar.indexCast v101
  let c2048 : Index := 2048#32
  ![v383.toNat, 2048]
def k0_off10 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c32_i32 : BitVec 32 := 32#32
  let v100 : BitVec 32 := Scalar.muli arg15 c32_i32
  let v101 : BitVec 32 := v100
  let v418 : Index := Scalar.indexCast v101
  let c2304 : Index := 2304#32
  ![v418.toNat, 2304]
def k0_off11 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c32_i32 : BitVec 32 := 32#32
  let v100 : BitVec 32 := Scalar.muli arg15 c32_i32
  let v101 : BitVec 32 := v100
  let v459 : Index := Scalar.indexCast v101
  let c0_141 : Index := 0#32
  ![v459.toNat, 0]
def k0_off12 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c32_i32 : BitVec 32 := 32#32
  let v100 : BitVec 32 := Scalar.muli arg15 c32_i32
  let v101 : BitVec 32 := v100
  let v467 : Index := Scalar.indexCast v101
  let c128_145 : Index := 128#32
  ![v467.toNat, 128]
def k0_off13 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c32_i32 : BitVec 32 := 32#32
  let v100 : BitVec 32 := Scalar.muli arg15 c32_i32
  let v101 : BitVec 32 := v100
  let v476 : Index := Scalar.indexCast v101
  let c256_149 : Index := 256#32
  ![v476.toNat, 256]
def k0_off14 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c32_i32 : BitVec 32 := 32#32
  let v100 : BitVec 32 := Scalar.muli arg15 c32_i32
  let v101 : BitVec 32 := v100
  let v487 : Index := Scalar.indexCast v101
  let c0_153 : Index := 0#32
  ![v487.toNat, 0]
def k0_mult2 (i : grid0.Coords) : BitVec 32 :=
  let arg0 : BitVec 32 := BitVec.ofNat 32 (i 0).val
  let c4_i32_9 : BitVec 32 := 4#32
  let c0_i32_10 : BitVec 32 := 0#32
  let v25 : BitVec 1 := Scalar.cmpi .eq c4_i32_9 c0_i32_10
  let c1_i32_11 : BitVec 32 := 1#32
  let v26 : BitVec 32 := Scalar.select v25 c1_i32_11 c4_i32_9
  let v27 : BitVec 32 := Scalar.remsi arg0 v26
  let c0_i32_13 : BitVec 32 := 0#32
  let v29 : BitVec 1 := Scalar.cmpi .slt v27 c0_i32_13
  let c0_i32_14 : BitVec 32 := 0#32
  let v30 : BitVec 1 := Scalar.cmpi .slt v26 c0_i32_14
  let v31 : BitVec 1 := Scalar.xori v29 v30
  let c0_i32_12 : BitVec 32 := 0#32
  let v28 : BitVec 1 := Scalar.cmpi .ne v27 c0_i32_12
  let v32 : BitVec 1 := Scalar.andi v31 v28
  let v33 : BitVec 32 := Scalar.addi v27 v26
  let v34 : BitVec 32 := Scalar.select v32 v33 v27
  let c256_i32 : BitVec 32 := 256#32
  let v35 : BitVec 32 := Scalar.muli v34 c256_i32
  let c0_i32_15 : BitVec 32 := 0#32
  let v36 : BitVec 32 := Scalar.addi v35 c0_i32_15
  v36
def k0_off15 (i : grid0.Coords) (c0_i32_15 : BitVec 32) : Fin 2 → Nat :=
  let c0_18 : Index := 0#32
  let arg0 : BitVec 32 := BitVec.ofNat 32 (i 0).val
  let c4_i32_9 : BitVec 32 := 4#32
  let c0_i32_10 : BitVec 32 := 0#32
  let v25 : BitVec 1 := Scalar.cmpi .eq c4_i32_9 c0_i32_10
  let c1_i32_11 : BitVec 32 := 1#32
  let v26 : BitVec 32 := Scalar.select v25 c1_i32_11 c4_i32_9
  let v27 : BitVec 32 := Scalar.remsi arg0 v26
  let c0_i32_13 : BitVec 32 := 0#32
  let v29 : BitVec 1 := Scalar.cmpi .slt v27 c0_i32_13
  let c0_i32_14 : BitVec 32 := 0#32
  let v30 : BitVec 1 := Scalar.cmpi .slt v26 c0_i32_14
  let v31 : BitVec 1 := Scalar.xori v29 v30
  let c0_i32_12 : BitVec 32 := 0#32
  let v28 : BitVec 1 := Scalar.cmpi .ne v27 c0_i32_12
  let v32 : BitVec 1 := Scalar.andi v31 v28
  let v33 : BitVec 32 := Scalar.addi v27 v26
  let v34 : BitVec 32 := Scalar.select v32 v33 v27
  let c256_i32 : BitVec 32 := 256#32
  let v35 : BitVec 32 := Scalar.muli v34 c256_i32
  let v36 : BitVec 32 := Scalar.addi v35 c0_i32_15
  let v37 : BitVec 32 := v36
  let v45 : Index := Scalar.indexCast v37
  ![0, v45.toNat]
def k0_mult3 (i : grid0.Coords) : BitVec 32 :=
  let arg0 : BitVec 32 := BitVec.ofNat 32 (i 0).val
  let c4_i32_9 : BitVec 32 := 4#32
  let c0_i32_10 : BitVec 32 := 0#32
  let v25 : BitVec 1 := Scalar.cmpi .eq c4_i32_9 c0_i32_10
  let c1_i32_11 : BitVec 32 := 1#32
  let v26 : BitVec 32 := Scalar.select v25 c1_i32_11 c4_i32_9
  let v27 : BitVec 32 := Scalar.remsi arg0 v26
  let c0_i32_13 : BitVec 32 := 0#32
  let v29 : BitVec 1 := Scalar.cmpi .slt v27 c0_i32_13
  let c0_i32_14 : BitVec 32 := 0#32
  let v30 : BitVec 1 := Scalar.cmpi .slt v26 c0_i32_14
  let v31 : BitVec 1 := Scalar.xori v29 v30
  let c0_i32_12 : BitVec 32 := 0#32
  let v28 : BitVec 1 := Scalar.cmpi .ne v27 c0_i32_12
  let v32 : BitVec 1 := Scalar.andi v31 v28
  let v33 : BitVec 32 := Scalar.addi v27 v26
  let v34 : BitVec 32 := Scalar.select v32 v33 v27
  let c256_i32 : BitVec 32 := 256#32
  let v35 : BitVec 32 := Scalar.muli v34 c256_i32
  let c128_i32 : BitVec 32 := 128#32
  let v68 : BitVec 32 := Scalar.addi v35 c128_i32
  v68
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2560 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2560 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S12x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x320 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S12x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2560 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S12x1024x2560 : Shape := ⟨3, ![12, 1024, 2560]⟩
abbrev S2560 : Shape := ⟨1, ![2560]⟩
abbrev S_ : Shape := ⟨0, ![]⟩
abbrev S1x1x2560 : Shape := ⟨3, ![1, 1, 2560]⟩
abbrev S12x1024 : Shape := ⟨2, ![12, 1024]⟩
abbrev S12x1024x1 : Shape := ⟨3, ![12, 1024, 1]⟩
abbrev S12x1024x320x8 : Shape := ⟨4, ![12, 1024, 320, 8]⟩
abbrev S8 : Shape := ⟨1, ![8]⟩
abbrev S1x1x1x8 : Shape := ⟨4, ![1, 1, 1, 8]⟩
abbrev S12x1024x320 : Shape := ⟨3, ![12, 1024, 320]⟩
abbrev S12288x320 : Shape := ⟨2, ![12288, 320]⟩
abbrev S12288x2560 : Shape := ⟨2, ![12288, 2560]⟩

abbrev nBuf : Space → Nat
  | .hbm => 96
  | .vmem => 2
  | .smem => 0
  | _ => 0

abbrev bufTy : (tb : Table) → Fin (tcTables nBuf tb) → BufTy
  | .hbm, ⟨0, _⟩ => ⟨S12x1024x2560, .bf16⟩
  | .hbm, ⟨1, _⟩ => ⟨S12x1024x2560, .bf16⟩
  | .hbm, ⟨2, _⟩ => ⟨S2560, .f32⟩
  | .hbm, ⟨3, _⟩ => ⟨S12x1024x2560, .i32⟩
  | .hbm, ⟨4, _⟩ => ⟨S2560, .f32⟩
  | .hbm, ⟨5, _⟩ => ⟨S_, .i32⟩
  | .hbm, ⟨6, _⟩ => ⟨S12x1024x2560, .i32⟩
  | .hbm, ⟨7, _⟩ => ⟨S12x1024x2560, .i1⟩
  | .hbm, ⟨8, _⟩ => ⟨S12x1024x2560, .f32⟩
  | .hbm, ⟨9, _⟩ => ⟨S1x1x2560, .f32⟩
  | .hbm, ⟨10, _⟩ => ⟨S12x1024x2560, .f32⟩
  | .hbm, ⟨11, _⟩ => ⟨S12x1024x2560, .f32⟩
  | .hbm, ⟨12, _⟩ => ⟨S_, .f32⟩
  | .hbm, ⟨13, _⟩ => ⟨S12x1024x2560, .f32⟩
  | .hbm, ⟨14, _⟩ => ⟨S12x1024x2560, .f32⟩
  | .hbm, ⟨15, _⟩ => ⟨S_, .f32⟩
  | .hbm, ⟨16, _⟩ => ⟨S_, .f32⟩
  | .hbm, ⟨17, _⟩ => ⟨S12x1024x2560, .f32⟩
  | .hbm, ⟨18, _⟩ => ⟨S12x1024x2560, .f32⟩
  | .hbm, ⟨19, _⟩ => ⟨S12x1024x2560, .f32⟩
  | .hbm, ⟨20, _⟩ => ⟨S12x1024x2560, .f32⟩
  | .hbm, ⟨21, _⟩ => ⟨S12x1024x2560, .bf16⟩
  | .hbm, ⟨22, _⟩ => ⟨S12x1024x2560, .f32⟩
  | .hbm, ⟨23, _⟩ => ⟨S12x1024x2560, .f32⟩
  | .hbm, ⟨24, _⟩ => ⟨S_, .f32⟩
  | .hbm, ⟨25, _⟩ => ⟨S12x1024, .f32⟩
  | .hbm, ⟨26, _⟩ => ⟨S_, .f32⟩
  | .hbm, ⟨27, _⟩ => ⟨S12x1024, .f32⟩
  | .hbm, ⟨28, _⟩ => ⟨S12x1024, .f32⟩
  | .hbm, ⟨29, _⟩ => ⟨S_, .f32⟩
  | .hbm, ⟨30, _⟩ => ⟨S12x1024, .f32⟩
  | .hbm, ⟨31, _⟩ => ⟨S12x1024, .f32⟩
  | .hbm, ⟨32, _⟩ => ⟨S12x1024, .f32⟩
  | .hbm, ⟨33, _⟩ => ⟨S12x1024x1, .f32⟩
  | .hbm, ⟨34, _⟩ => ⟨S12x1024x2560, .f32⟩
  | .hbm, ⟨35, _⟩ => ⟨S12x1024x2560, .f32⟩
  | .hbm, ⟨36, _⟩ => ⟨S1x1x2560, .f32⟩
  | .hbm, ⟨37, _⟩ => ⟨S12x1024x2560, .f32⟩
  | .hbm, ⟨38, _⟩ => ⟨S12x1024x2560, .f32⟩
  | .hbm, ⟨39, _⟩ => ⟨S12x1024x2560, .f32⟩
  | .hbm, ⟨40, _⟩ => ⟨S_, .f32⟩
  | .hbm, ⟨41, _⟩ => ⟨S12x1024, .f32⟩
  | .hbm, ⟨42, _⟩ => ⟨S_, .f32⟩
  | .hbm, ⟨43, _⟩ => ⟨S12x1024, .f32⟩
  | .hbm, ⟨44, _⟩ => ⟨S12x1024, .f32⟩
  | .hbm, ⟨45, _⟩ => ⟨S_, .f32⟩
  | .hbm, ⟨46, _⟩ => ⟨S12x1024, .f32⟩
  | .hbm, ⟨47, _⟩ => ⟨S12x1024, .i1⟩
  | .hbm, ⟨48, _⟩ => ⟨S_, .f32⟩
  | .hbm, ⟨49, _⟩ => ⟨S12x1024, .f32⟩
  | .hbm, ⟨50, _⟩ => ⟨S12x1024, .i1⟩
  | .hbm, ⟨51, _⟩ => ⟨S12x1024, .i1⟩
  | .hbm, ⟨52, _⟩ => ⟨S12x1024, .f32⟩
  | .hbm, ⟨53, _⟩ => ⟨S_, .f32⟩
  | .hbm, ⟨54, _⟩ => ⟨S_, .f32⟩
  | .hbm, ⟨55, _⟩ => ⟨S12x1024, .f32⟩
  | .hbm, ⟨56, _⟩ => ⟨S12x1024, .f32⟩
  | .hbm, ⟨57, _⟩ => ⟨S12x1024, .f32⟩
  | .hbm, ⟨58, _⟩ => ⟨S_, .f32⟩
  | .hbm, ⟨59, _⟩ => ⟨S12x1024, .f32⟩
  | .hbm, ⟨60, _⟩ => ⟨S12x1024, .f32⟩
  | .hbm, ⟨61, _⟩ => ⟨S_, .f32⟩
  | .hbm, ⟨62, _⟩ => ⟨S_, .f32⟩
  | .hbm, ⟨63, _⟩ => ⟨S12x1024, .f32⟩
  | .hbm, ⟨64, _⟩ => ⟨S12x1024, .f32⟩
  | .hbm, ⟨65, _⟩ => ⟨S_, .f32⟩
  | .hbm, ⟨66, _⟩ => ⟨S12x1024, .f32⟩
  | .hbm, ⟨67, _⟩ => ⟨S12x1024, .f32⟩
  | .hbm, ⟨68, _⟩ => ⟨S12x1024, .f32⟩
  | .hbm, ⟨69, _⟩ => ⟨S_, .f32⟩
  | .hbm, ⟨70, _⟩ => ⟨S12x1024, .f32⟩
  | .hbm, ⟨71, _⟩ => ⟨S12x1024, .f32⟩
  | .hbm, ⟨72, _⟩ => ⟨S12x1024x1, .f32⟩
  | .hbm, ⟨73, _⟩ => ⟨S12x1024x2560, .f32⟩
  | .hbm, ⟨74, _⟩ => ⟨S12x1024x2560, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S12x1024x2560, .f32⟩
  | .hbm, ⟨79, _⟩ => ⟨S12x1024x2560, .f32⟩
  | .hbm, ⟨80, _⟩ => ⟨S_, .f32⟩
  | .hbm, ⟨81, _⟩ => ⟨S12x1024x2560, .f32⟩
  | .hbm, ⟨82, _⟩ => ⟨S12x1024x2560, .f32⟩
  | .hbm, ⟨83, _⟩ => ⟨S12x1024x320x8, .i1⟩
  | .hbm, ⟨84, _⟩ => ⟨S12x1024x320x8, .i32⟩
  | .hbm, ⟨85, _⟩ => ⟨S8, .i32⟩
  | .hbm, ⟨86, _⟩ => ⟨S1x1x1x8, .i32⟩
  | .hbm, ⟨87, _⟩ => ⟨S12x1024x320x8, .i32⟩
  | .hbm, ⟨88, _⟩ => ⟨S12x1024x320x8, .i32⟩
  | .hbm, ⟨89, _⟩ => ⟨S_, .i32⟩
  | .hbm, ⟨90, _⟩ => ⟨S12x1024x320, .i32⟩
  | .hbm, ⟨91, _⟩ => ⟨S12x1024x320, .i8⟩
  | .hbm, ⟨92, _⟩ => ⟨S12288x320, .i8⟩
  | .hbm, ⟨93, _⟩ => ⟨S12288x2560, .bf16⟩
  | .hbm, ⟨94, _⟩ => ⟨S12288x2560, .f32⟩
  | .hbm, ⟨95, _⟩ => ⟨S12288x2560, .fp8e4m3⟩
  | .local _ .vmem, ⟨0, _⟩ => ⟨S12288x2560, .f32⟩
  | .local _ .vmem, ⟨1, _⟩ => ⟨S12288x2560, .fp8e4m3⟩
  | _, _ => ⟨S12x1024x2560, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_call1_v0 : Ref sig .tc := ⟨.hbm, 62, rfl⟩
abbrev main_call1_v1 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_13 : Ref sig .tc := ⟨.hbm, 75, rfl⟩
abbrev main_cst_14 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_15 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S12288x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelTrip.lean ====
module

public import proofs.«01_k».proof.Proof.Gen.Kernel.Frame
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one trip of the row-group loop holds: the inputs and the pack weights at fixed contents, the written buffers. -/
abbrev Trip (c : Dev nD) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) (f_6 : Buf (Elt F) (arg6.view.loc (c : Thread nD τ))) (f_8 : Buf (Elt F) (arg8.view.loc (c : Thread nD τ))) (f_10 : Buf (Elt F) (arg10.view.loc (c : Thread nD τ))) (f_12 : Buf (Elt F) (arg12.view.loc (c : Thread nD τ))) (f_13 : Buf (Elt F) (arg13.view.loc (c : Thread nD τ))) (f_14 : Buf (Elt F) (arg14.view.loc (c : Thread nD τ))) : sProp 𝕄 :=
  iprop((arg1.view.loc (c : Thread nD τ) ↦[arg1.view.set]{fullShare} X_1)
      ∗ (arg2.view.loc (c : Thread nD τ) ↦[arg2.view.set]{fullShare} X_2)
      ∗ (arg3.view.loc (c : Thread nD τ) ↦[arg3.view.set]{fullShare} X_3)
      ∗ (arg4.view.loc (c : Thread nD τ) ↦[arg4.view.set]{fullShare} X_4)
      ∗ (arg5.view.loc (c : Thread nD τ) ↦[arg5.view.set]{fullShare} X_5)
      ∗ (arg11.view.loc (c : Thread nD τ) ↦[arg11.view.set]{fullShare} X_11)
      ∗ (arg6.view.loc (c : Thread nD τ) ↦[arg6.view.set]{fullShare} f_6)
      ∗ (arg8.view.loc (c : Thread nD τ) ↦[arg8.view.set]{fullShare} f_8)
      ∗ (arg10.view.loc (c : Thread nD τ) ↦[arg10.view.set]{fullShare} f_10)
      ∗ (arg12.view.loc (c : Thread nD τ) ↦[arg12.view.set]{fullShare} f_12)
      ∗ (arg13.view.loc (c : Thread nD τ) ↦[arg13.view.set]{fullShare} f_13)
      ∗ (arg14.view.loc (c : Thread nD τ) ↦[arg14.view.set]{fullShare} f_14))

set_option maxHeartbeats 0 in
/-- One trip of the loop at a symbolic trip number: the pieces it writes into each buffer do not depend on what the
    buffers held. -/
@[irreducible] def trip (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) (k : Fin k0_t1_loop.trips) :
    Σ' (L6 : List (View.Piece (Elt F) S256x2560 .fp8e4m3)) (L8 : List (View.Piece (Elt F) S256x320 .i8)) (L10 : List (View.Piece (Elt F) S256x2560 .bf16)) (L12 : List (View.Piece (Elt F) S32x2560 .f32)) (L13 : List (View.Piece (Elt F) S256x128 .f32)), { L14 : List (View.Piece (Elt F) S256x128 .f32) //
      ∀ (f_6 : Buf (Elt F) (arg6.view.loc (c : Thread nD τ))) (f_8 : Buf (Elt F) (arg8.view.loc (c : Thread nD τ))) (f_10 : Buf (Elt F) (arg10.view.loc (c : Thread nD τ))) (f_12 : Buf (Elt F) (arg12.view.loc (c : Thread nD τ))) (f_13 : Buf (Elt F) (arg13.view.loc (c : Thread nD τ))) (f_14 : Buf (Elt F) (arg14.view.loc (c : Thread nD τ))),
        Trip (F := F) c arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 f_6 f_8 f_10 f_12 f_13 f_14
          ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 k PUnit.unit)
            (fun _ => Trip (F := F) c arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 (arg6.view.writes (Elt F) f_6 L6) (arg8.view.writes (Elt F) f_8 L8) (arg10.view.writes (Elt F) f_10 L10) (arg12.view.writes (Elt F) f_12 L12) (arg13.view.writes (Elt F) f_13 L13) (arg14.view.writes (Elt F) f_14 L14)) } := by
  refine ⟨?_, ?_, ?_, ?_, ?_, ?_, fun f_6 f_8 f_10 f_12 f_13 f_14 => ?run⟩
  case run =>
    unfold k0_t1_body
    iintro ⟨H1, H2, H3, H4, H5, H11, H6, H8, H10, H12, H13, H14⟩
    sl_exec_parts
    sl_step
    sl_close

end Cert.Kernel.Hand

end
-- ==== Proof.KernelWeak.lean ====
module

public import proofs.«01_k».proof.Proof.KernelTrip

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem k0_off15_0_eq : ∀ i : grid0.Coords, k0_off15 i 0#32 = ![0, 256 * ((i 0).val % 4)] := by decide +kernel
theorem k0_off15_128_eq : ∀ i : grid0.Coords, k0_off15 i 128#32 = ![0, 256 * ((i 0).val % 4) + 128] := by decide +kernel
instance closedOff15_0 (i : grid0.Coords) : ClosedOff (k0_off15 i 0#32) := ⟨![0, 256 * ((i 0).val % 4)], k0_off15_0_eq i⟩
instance closedOff15_128 (i : grid0.Coords) : ClosedOff (k0_off15 i 128#32) := ⟨![0, 256 * ((i 0).val % 4) + 128], k0_off15_128_eq i⟩

/-- Before every trip: the inputs and the pack weights at fixed contents, each written buffer at some contents. -/
abbrev weakInv (c : Dev nD) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) : sProp 𝕄 :=
  iprop((arg1.view.loc (c : Thread nD τ) ↦[arg1.view.set]{fullShare} X_1)
      ∗ (arg2.view.loc (c : Thread nD τ) ↦[arg2.view.set]{fullShare} X_2)
      ∗ (arg3.view.loc (c : Thread nD τ) ↦[arg3.view.set]{fullShare} X_3)
      ∗ (arg4.view.loc (c : Thread nD τ) ↦[arg4.view.set]{fullShare} X_4)
      ∗ (arg5.view.loc (c : Thread nD τ) ↦[arg5.view.set]{fullShare} X_5)
      ∗ (arg11.view.loc (c : Thread nD τ) ↦[arg11.view.set]{fullShare} X_11)
      ∗ (∃ f_6 : Buf (Elt F) (arg6.view.loc (c : Thread nD τ)), (arg6.view.loc (c : Thread nD τ) ↦[arg6.view.set]{fullShare} f_6))
      ∗ (∃ f_8 : Buf (Elt F) (arg8.view.loc (c : Thread nD τ)), (arg8.view.loc (c : Thread nD τ) ↦[arg8.view.set]{fullShare} f_8))
      ∗ (∃ f_10 : Buf (Elt F) (arg10.view.loc (c : Thread nD τ)), (arg10.view.loc (c : Thread nD τ) ↦[arg10.view.set]{fullShare} f_10))
      ∗ (∃ f_12 : Buf (Elt F) (arg12.view.loc (c : Thread nD τ)), (arg12.view.loc (c : Thread nD τ) ↦[arg12.view.set]{fullShare} f_12))
      ∗ (∃ f_13 : Buf (Elt F) (arg13.view.loc (c : Thread nD τ)), (arg13.view.loc (c : Thread nD τ) ↦[arg13.view.set]{fullShare} f_13))
      ∗ (∃ f_14 : Buf (Elt F) (arg14.view.loc (c : Thread nD τ)), (arg14.view.loc (c : Thread nD τ) ↦[arg14.view.set]{fullShare} f_14)))

/-- The row-group loop, with nothing said of what it writes. -/
@[sl_loop] def weakLoop (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 where
  inv _ _ := weakInv (F := F) c arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11
  step k acc := by
    iintro ⟨H1, H2, H3, H4, H5, H11, ⟨%f_6, H6⟩, ⟨%f_8, H8⟩, ⟨%f_10, H10⟩, ⟨%f_12, H12⟩, ⟨%f_13, H13⟩, ⟨%f_14, H14⟩⟩
    iapply (wp_wand_r Idealize.ShloMosaic.frame (wpE (defs₀ (F := F)) Variants.none (c : Thread nD τ) none) Set.univ)
    isplitl [H1 H2 H3 H4 H5 H11 H6 H8 H10 H12 H13 H14]
    · iapply ((trip (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k).2.2.2.2.2.2 f_6 f_8 f_10 f_12 f_13 f_14)
      isplitl [H1]; · iexact H1
      isplitl [H2]; · iexact H2
      isplitl [H3]; · iexact H3
      isplitl [H4]; · iexact H4
      isplitl [H5]; · iexact H5
      isplitl [H11]; · iexact H11
      isplitl [H6]; · iexact H6
      isplitl [H8]; · iexact H8
      isplitl [H10]; · iexact H10
      isplitl [H12]; · iexact H12
      isplitl [H13]; · iexact H13
      iexact H14
    · iintro %_ ⟨H1, H2, H3, H4, H5, H11, H6, H8, H10, H12, H13, H14⟩
      isplitl [H1]; · iexact H1
      isplitl [H2]; · iexact H2
      isplitl [H3]; · iexact H3
      isplitl [H4]; · iexact H4
      isplitl [H5]; · iexact H5
      isplitl [H11]; · iexact H11
      isplitl [H6]; · iexists _; iexact H6
      isplitl [H8]; · iexists _; iexact H8
      isplitl [H10]; · iexists _; iexact H10
      isplitl [H12]; · iexists _; iexact H12
      isplitl [H13]; · iexists _; iexact H13
      iexists _; iexact H14

set_option maxHeartbeats 0 in
/-- The body at any contents of its buffers: it runs, and leaves each buffer at some contents. -/
theorem weakBody (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (W : Waits sig Unit) (K : PUnit → sProp 𝕄) :
    iprop((∃ f, (arg1.view.loc (c : Thread nD τ) ↦[arg1.view.set]{fullShare} f))
      ∗ (∃ f, (arg2.view.loc (c : Thread nD τ) ↦[arg2.view.set]{fullShare} f))
      ∗ (∃ f, (arg3.view.loc (c : Thread nD τ) ↦[arg3.view.set]{fullShare} f))
      ∗ (∃ f, (arg4.view.loc (c : Thread nD τ) ↦[arg4.view.set]{fullShare} f))
      ∗ (∃ f, (arg5.view.loc (c : Thread nD τ) ↦[arg5.view.set]{fullShare} f))
      ∗ (∃ f, (arg6.view.loc (c : Thread nD τ) ↦[arg6.view.set]{fullShare} f))
      ∗ (∃ f, (arg7.view.loc (c : Thread nD τ) ↦[arg7.view.set]{fullShare} f))
      ∗ (∃ f, (arg8.view.loc (c : Thread nD τ) ↦[arg8.view.set]{fullShare} f))
      ∗ (∃ f, (arg9.view.loc (c : Thread nD τ) ↦[arg9.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f))
      ∗ (∃ f, (arg13.view.loc (c : Thread nD τ) ↦[arg13.view.set]{fullShare} f))
      ∗ (∃ f, (arg14.view.loc (c : Thread nD τ) ↦[arg14.view.set]{fullShare} f))
      ∗ owes (c : Thread nD τ) 0 W
      ∗ (iprop((∃ f, (arg1.view.loc (c : Thread nD τ) ↦[arg1.view.set]{fullShare} f))
      ∗ (∃ f, (arg2.view.loc (c : Thread nD τ) ↦[arg2.view.set]{fullShare} f))
      ∗ (∃ f, (arg3.view.loc (c : Thread nD τ) ↦[arg3.view.set]{fullShare} f))
      ∗ (∃ f, (arg4.view.loc (c : Thread nD τ) ↦[arg4.view.set]{fullShare} f))
      ∗ (∃ f, (arg5.view.loc (c : Thread nD τ) ↦[arg5.view.set]{fullShare} f))
      ∗ (∃ f, (arg6.view.loc (c : Thread nD τ) ↦[arg6.view.set]{fullShare} f))
      ∗ (∃ f, (arg7.view.loc (c : Thread nD τ) ↦[arg7.view.set]{fullShare} f))
      ∗ (∃ f, (arg8.view.loc (c : Thread nD τ) ↦[arg8.view.set]{fullShare} f))
      ∗ (∃ f, (arg9.view.loc (c : Thread nD τ) ↦[arg9.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f))
      ∗ (∃ f, (arg13.view.loc (c : Thread nD τ) ↦[arg13.view.set]{fullShare} f))
      ∗ (∃ f, (arg14.view.loc (c : Thread nD τ) ↦[arg14.view.set]{fullShare} f)) ∗ (∃ W', owes (c : Thread nD τ) 0 W')) -∗ K ⟨⟩))
      ⊢ wp frame (wpE (defs₀ (F := F)) Variants.none (c : Thread nD τ) none) Set.univ
          (cc0_bias_dropout_add_rmsnorm_fp8 (F := F) i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨⟨%g1, H1⟩, ⟨%g2, H2⟩, ⟨%g3, H3⟩, ⟨%g4, H4⟩, ⟨%g5, H5⟩, ⟨%g6, H6⟩, ⟨%g7, H7⟩, ⟨%g8, H8⟩, ⟨%g9, H9⟩, ⟨%g10, H10⟩, ⟨%g11, H11⟩, ⟨%g12, H12⟩, ⟨%g13, H13⟩, ⟨%g14, H14⟩, HW, Hk⟩
  by_cases hz : (Scalar.cmpi .ne (Scalar.extui (Scalar.cmpi .eq (BitVec.ofNat 32 (i 0).val) 0#32) : BitVec 32) 0#32) = 1#1
  all_goals
    unfold cc0_bias_dropout_add_rmsnorm_fp8
    sl_exec_parts
    sl_step
    iapply Hk
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact HW

end Cert.Kernel.Hand

end
-- ==== Proof.KernelFrame.lean ====
module

public import proofs.«01_k».proof.Proof.KernelWeak

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Proof data that says nothing of the windows' contents. -/
def weakDats (_ : Fin 1) (c : Dev nD) : Dat τ (Elt F) Unit ℕ (UR sig nD τ) ℕ cfg0 c where
  A w := V m c (Pipeline.arrRef spec0 w)
  after w _ := fun _ => Classical.arbitrary _
  Φ _ := Pipeline.ΦA spec0 c
  q _ := fullShare
  owed _ := 0

/-- The buffers the body is called with at one point, each at some contents. -/
def weakOwns (c : Dev nD) (t : Fin cfg0.N) : sProp 𝕄 :=
  iprop((∃ X, owns (c : Thread nD τ) (win0_0.stage (cfg0.slots t 0)) fullShare X)
      ∗ (∃ X, owns (c : Thread nD τ) (win0_1.stage (cfg0.slots t 1)) fullShare X)
      ∗ (∃ X, owns (c : Thread nD τ) (win0_2.stage (cfg0.slots t 2)) fullShare X)
      ∗ (∃ X, owns (c : Thread nD τ) (win0_3.stage (cfg0.slots t 3)) fullShare X)
      ∗ (∃ X, owns (c : Thread nD τ) (win0_4.stage (cfg0.slots t 4)) fullShare X)
      ∗ (∃ X, owns (c : Thread nD τ) (win0_5.stage (cfg0.slots t 5)) fullShare X)
      ∗ (∃ X, owns (c : Thread nD τ) (win0_6.stage (cfg0.slots t 6)) fullShare X)
      ∗ (∃ X, owns (c : Thread nD τ) (win0_7.stage (cfg0.slots t 7)) fullShare X)
      ∗ (∃ X, owns (c : Thread nD τ) (win0_8.stage (cfg0.slots t 8)) fullShare X)
      ∗ (∃ X, owns (c : Thread nD τ) (win0_9.stage (cfg0.slots t 9)) fullShare X))

theorem weakSound (c : Dev nD) (t : Fin cfg0.N) :
    iprop((weakDats m 0 c).Φ t.castSucc ∗ (weakDats m 0 c).owesAt () t.castSucc ∗ weakOwns c t)
      ⊢ wp frame (wpE (defs₀ (F := F)) Variants.none c none) Set.univ (bodyAt0 t)
          (fun _ => iprop((weakDats m 0 c).Φ t.succ ∗ (weakDats m 0 c).owesAt () t.succ ∗ weakOwns c t)) := by
  unfold bodyAt0 weakOwns
  rw [show (weakDats m 0 c).Φ t.succ = Pipeline.ΦA spec0 c from rfl,
    show (weakDats m 0 c).Φ t.castSucc = Pipeline.ΦA spec0 c from rfl]
  unfold Pipeline.ΦA
  rw [scopedRest0_eq]
  unfold Dat.owesAt Pipeline.owesWithin
  rw [show (weakDats m 0 c).owed t.castSucc = 0 from rfl, show (weakDats m 0 c).owed t.succ = 0 from rfl]
  unfold owns
  iintro ⟨⟨⟨⟨%g11, H11⟩, ⟨%g12, H12⟩, ⟨%g13, H13⟩, ⟨%g14, H14⟩⟩, Hg⟩, ⟨%W, -, HW⟩, ⟨%d1, %g1, -, H1⟩, ⟨%d2, %g2, -, H2⟩, ⟨%d3, %g3, -, H3⟩, ⟨%d4, %g4, -, H4⟩, ⟨%d5, %g5, -, H5⟩, ⟨%d6, %g6, -, H6⟩, ⟨%d7, %g7, -, H7⟩, ⟨%d8, %g8, -, H8⟩, ⟨%d9, %g9, -, H9⟩, ⟨%d10, %g10, -, H10⟩⟩
  iapply (weakBody c (grid0.coords t) _ _ _ _ _ _ _ _ _ _ _ _ _ _ _ _ _ _ _ _ _ _ _ _ _ _ _ _ W _)
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists g11; simp only [View.set_whole]; iexact H11
  isplitl [H12]; · iexists g12; simp only [View.set_whole]; iexact H12
  isplitl [H13]; · iexists g13; simp only [View.set_whole]; iexact H13
  isplitl [H14]; · iexists g14; simp only [View.set_whole]; iexact H14
  isplitl [HW]; · iexact HW
  iintro ⟨⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%W', HW'⟩⟩
  isplitl [H11 H12 H13 H14 Hg]
  · isplitl [H11 H12 H13 H14]
    ·
      isplitl [H11]; · iexists e11; simp only [View.set_whole]; iexact H11
      isplitl [H12]; · iexists e12; simp only [View.set_whole]; iexact H12
      isplitl [H13]; · iexists e13; simp only [View.set_whole]; iexact H13
      iexists e14; simp only [View.set_whole]; iexact H14
    iexact Hg
  isplitl [HW']
  · iexists W'; isplitr; · ipureintro; exact fun _ _ => Or.inl trivial
    iexact HW'
  isplitl [H1]; · iexists _, _; isplitr; swap; (iexact H1); ipureintro; rfl
  isplitl [H2]; · iexists _, _; isplitr; swap; (iexact H2); ipureintro; rfl
  isplitl [H3]; · iexists _, _; isplitr; swap; (iexact H3); ipureintro; rfl
  isplitl [H4]; · iexists _, _; isplitr; swap; (iexact H4); ipureintro; rfl
  isplitl [H5]; · iexists _, _; isplitr; swap; (iexact H5); ipureintro; rfl
  isplitl [H6]; · iexists _, _; isplitr; swap; (iexact H6); ipureintro; rfl
  isplitl [H7]; · iexists _, _; isplitr; swap; (iexact H7); ipureintro; rfl
  isplitl [H8]; · iexists _, _; isplitr; swap; (iexact H8); ipureintro; rfl
  isplitl [H9]; · iexists _, _; isplitr; swap; (iexact H9); ipureintro; rfl
  iexists _, _; isplitr; swap; (iexact H10); ipureintro; rfl

theorem defs₀_row (t : Fin cfg0.N) :
    defs₀ (F := F) .tc cfg0.body (cfg0.bodyArgs t (cfg0.slots t)) = bodyAt0 t := by
  unfold defs₀; rw [Defs.onTc_tc]

theorem weakObligation (c : Dev nD) :
    Pipeline.BodyObligationLoose (weakDats (F := F) m 0 c) (defs₀ (F := F)) Variants.none () Set.univ (fun _ => true) := fun t => by
  rw [bigSep_W0]
  exact triple_restated (weakSound m c t) rfl .rfl fun _ => .rfl

set_option backward.isDefEq.respectTransparency.types false in
/-- The program runs, its argument arrays end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_forget (Q' := _) cfgs (weakDats m) (0 : Fin 1) launch0 defs₀ Variants.none (fun _ => true) m ρ main
    (hbody := weakObligation m) (hshare := fun c => (weakDats m 0 c).share_full fun _ => rfl)
    (howed := fun _ _ => rfl) (V := V m) (hmain := hmain m Variants.none) (hA := fun _ _ => rfl) (hΦ := fun _ _ => rfl)
    (hQ' := fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)

end Cert.Kernel.Hand

end
-- ==== Proof.Row.lean ====
module

public import Idealize.ShloMosaic.Lib.Pointwise

@[expose] public section

noncomputable section

namespace Cert.Hand

open Idealize.ShloMosaic

/-- The inputs that one row of the result depends on: the row of `x`, of `a` and of the random words, and the two
    parameter vectors. -/
structure RowIn where
  x : Fin 2560 → EReal
  a : Fin 2560 → EReal
  b : Fin 2560 → EReal
  w : Fin 2560 → BitVec 32
  g : Fin 2560 → EReal

/-- One step of the kernel's search for the exponent field of `v`: the bit `b` is set if `v` reaches the power of two
    that the field then stands for. -/
def bstep (v : EReal) (b c : BitVec 32) : BitVec 32 :=
  Scalar.select (Ideal.cmp .oge v (Ideal.ofBits .f32 (IntOp.shli .vector (IntOp.addi c b) 23#32))) (IntOp.addi c b) c

/-- The exponent field that the search finds. -/
def bfield (v : EReal) : BitVec 32 :=
  bstep v 1#32 (bstep v 2#32 (bstep v 4#32 (bstep v 8#32 (bstep v 16#32 (bstep v 32#32 (bstep v 64#32 (bstep v 128#32 0#32)))))))

/-- The exponent of the scale as the kernel computes it. -/
def eWord (m v : EReal) : BitVec 32 :=
  Scalar.select (IntOp.ori (IntOp.ori (IntOp.cmpi .eq (bfield v) 0#32) (IntOp.cmpi .eq (bfield v) 255#32))
    (Ideal.cmp .oeq m (Ideal.ofBits .f32 0x00000000#32))) 0#32 (IntOp.subi (bfield v) 126#32)

namespace RowIn

variable (R : RowIn)

/-- Whether dropout keeps the element. -/
def keep (j : Fin 2560) : BitVec 1 := IntOp.cmpi .uge (R.w j) 429496730#32

/-- The residual sum. -/
def h (j : Fin 2560) : EReal := R.x j + Scalar.select (R.keep j) ((R.a j + R.b j) * Ideal.ofBits .f32 0x3F8E38E4#32) 0

/-- The sum of squares. -/
def ss : EReal := ∑ j : Fin 2560, R.h j * R.h j

/-- The reciprocal root mean square. -/
def rs : EReal := Ideal.rsqrt (Ideal.div R.ss (Ideal.ofBits .f32 0x45200000#32) + Ideal.ofBits .f32 0x3727C5AC#32)

/-- The normalized row. -/
def y (j : Fin 2560) : EReal := R.h j * R.rs * R.g j

/-- The largest magnitude. -/
def am : EReal := Finset.univ.fold max ⊥ fun j : Fin 2560 => max (R.y j) (-R.y j)

/-- The largest magnitude over the largest code. -/
def v : EReal := R.am * Ideal.ofBits .f32 0x3B124925#32

/-- The exponent of the scale. -/
def e : EReal :=
  Scalar.select (IntOp.andi (Ideal.cmp .oge R.v (Ideal.ofBits .f32 0x00800000#32)) (Ideal.cmp .olt R.v (Ideal.ofBits .f32 0x7F800000#32)))
    (Ideal.liftRound Int.floor (Ideal.div (Ideal.log R.v) (Ideal.log (Ideal.ofBits .f32 0x40000000#32))) + Ideal.ofBits .f32 0x3F800000#32) 0

/-- The scale. -/
def sc : EReal := Ideal.pow (Ideal.ofBits .f32 0x40000000#32) R.e

/-- One over the scale. -/
def inv : EReal := Ideal.pow (Ideal.ofBits .f32 0x40000000#32) (-R.e)

/-- The code. -/
def code (j : Fin 2560) : EReal :=
  min (Ideal.ofBits .f32 0x43E00000#32) (max (Ideal.ofBits .f32 0xC3E00000#32) (R.y j * R.inv))

/-- The scale as the kernel forms it. -/
def scK : EReal := Ideal.ofBits .f32 (IntOp.shli .vector (IntOp.addi (eWord R.am R.v) 127#32) 23#32)

/-- One over the scale as the kernel forms it. -/
def invK : EReal := Ideal.ofBits .f32 (IntOp.shli .vector (IntOp.addi (IntOp.subi 0#32 (eWord R.am R.v)) 127#32) 23#32)

/-- The code as the kernel forms it. -/
def codeK (j : Fin 2560) : EReal :=
  min (Ideal.ofBits .f32 0x43E00000#32) (max (Ideal.ofBits .f32 0xC3E00000#32) (R.y j * R.invK))

/-- The mask's byte `n` as a word: bit `b` is the keep bit of element `8 n + b`. -/
def bits (n : Fin 320) : ℕ := ∑ b : Fin 8, (R.keep ⟨8 * n.val + b.val, by omega⟩).toNat * 2 ^ b.val

/-- The mask's byte. -/
def mask (n : Fin 320) : BitVec 8 := BitVec.ofNat 8 (R.bits n)

end RowIn

/-- The sum of one lane over the twenty columns it stands for, in the order that the kernel adds them. -/
def laneSum (f : Fin 2560 → EReal) (l : Fin 128) : EReal :=
  ((((((((((((((((((((0 + f ⟨256 * 0 + l.val, by omega⟩) + f ⟨256 * 0 + (128 + l.val), by omega⟩) + f ⟨256 * 1 + l.val, by omega⟩) + f ⟨256 * 1 + (128 + l.val), by omega⟩) + f ⟨256 * 2 + l.val, by omega⟩) + f ⟨256 * 2 + (128 + l.val), by omega⟩) + f ⟨256 * 3 + l.val, by omega⟩) + f ⟨256 * 3 + (128 + l.val), by omega⟩) + f ⟨256 * 4 + l.val, by omega⟩) + f ⟨256 * 4 + (128 + l.val), by omega⟩) + f ⟨256 * 5 + l.val, by omega⟩) + f ⟨256 * 5 + (128 + l.val), by omega⟩) + f ⟨256 * 6 + l.val, by omega⟩) + f ⟨256 * 6 + (128 + l.val), by omega⟩) + f ⟨256 * 7 + l.val, by omega⟩) + f ⟨256 * 7 + (128 + l.val), by omega⟩) + f ⟨256 * 8 + l.val, by omega⟩) + f ⟨256 * 8 + (128 + l.val), by omega⟩) + f ⟨256 * 9 + l.val, by omega⟩) + f ⟨256 * 9 + (128 + l.val), by omega⟩)

/-- The maximum of zero and one lane's twenty columns, in the order that the kernel takes them. -/
def laneMax (f : Fin 2560 → EReal) (l : Fin 128) : EReal :=
  (max (max (max (max (max (max (max (max (max (max 0 (max (f ⟨256 * 0 + l.val, by omega⟩) (f ⟨256 * 0 + (128 + l.val), by omega⟩))) (max (f ⟨256 * 1 + l.val, by omega⟩) (f ⟨256 * 1 + (128 + l.val), by omega⟩))) (max (f ⟨256 * 2 + l.val, by omega⟩) (f ⟨256 * 2 + (128 + l.val), by omega⟩))) (max (f ⟨256 * 3 + l.val, by omega⟩) (f ⟨256 * 3 + (128 + l.val), by omega⟩))) (max (f ⟨256 * 4 + l.val, by omega⟩) (f ⟨256 * 4 + (128 + l.val), by omega⟩))) (max (f ⟨256 * 5 + l.val, by omega⟩) (f ⟨256 * 5 + (128 + l.val), by omega⟩))) (max (f ⟨256 * 6 + l.val, by omega⟩) (f ⟨256 * 6 + (128 + l.val), by omega⟩))) (max (f ⟨256 * 7 + l.val, by omega⟩) (f ⟨256 * 7 + (128 + l.val), by omega⟩))) (max (f ⟨256 * 8 + l.val, by omega⟩) (f ⟨256 * 8 + (128 + l.val), by omega⟩))) (max (f ⟨256 * 9 + l.val, by omega⟩) (f ⟨256 * 9 + (128 + l.val), by omega⟩)))

theorem sum_twenty (F : Fin 20 → EReal) : ∑ t, F t =
    ((((((((((((((((((((0 + F 0) + F 1) + F 2) + F 3) + F 4) + F 5) + F 6) + F 7) + F 8) + F 9) + F 10) + F 11) + F 12) + F 13) + F 14) + F 15) + F 16) + F 17) + F 18) + F 19) := by
  simp only [Fin.sum_univ_castSucc, Fin.sum_univ_zero]
  rfl

theorem max_twenty (F : Fin 20 → EReal) (c : EReal) :
    (max (max (max (max (max (max (max (max (max (max 0 (max (F 0) (F 1))) (max (F 2) (F 3))) (max (F 4) (F 5))) (max (F 6) (F 7))) (max (F 8) (F 9))) (max (F 10) (F 11))) (max (F 12) (F 13))) (max (F 14) (F 15))) (max (F 16) (F 17))) (max (F 18) (F 19))) ≤ c
      ↔ 0 ≤ c ∧ ∀ t, F t ≤ c := by
  simp only [max_le_iff]
  constructor
  · rintro ⟨⟨⟨⟨⟨⟨⟨⟨⟨⟨h, h0, h1⟩, h2, h3⟩, h4, h5⟩, h6, h7⟩, h8, h9⟩, h10, h11⟩, h12, h13⟩, h14, h15⟩, h16, h17⟩, h18, h19⟩
    refine ⟨h, fun t => ?_⟩
    fin_cases t <;> assumption
  · rintro ⟨h, H⟩
    exact ⟨⟨⟨⟨⟨⟨⟨⟨⟨⟨h, H _, H _⟩, H _, H _⟩, H _, H _⟩, H _, H _⟩, H _, H _⟩, H _, H _⟩, H _, H _⟩, H _, H _⟩, H _, H _⟩, H _, H _⟩

theorem sum_lanes (f : Fin 2560 → EReal) : ∑ j : Fin 2560, f j = ∑ l : Fin 128, laneSum f l := by
  have e : ∑ j : Fin 2560, f j = ∑ p : Fin 20 × Fin 128, f ⟨128 * p.1.val + p.2.val, by omega⟩ :=
    (Fintype.sum_equiv (finProdFinEquiv (m := 20) (n := 128)) _ _ fun p => congrArg f (Fin.ext (by
      show 128 * p.1.val + p.2.val = p.2.val + 128 * p.1.val; omega))).symm
  rw [e, Fintype.sum_prod_type_right]
  refine Finset.sum_congr rfl fun l _ => ?_
  rw [sum_twenty]
  unfold laneSum
  iterate 20 (refine congrArg₂ (· + ·) ?_ (congrArg f (Fin.ext (by simp <;> omega))))
  rfl

theorem laneMax_le (f : Fin 2560 → EReal) (l : Fin 128) (c : EReal) :
    laneMax f l ≤ c ↔ 0 ≤ c ∧ ∀ t : Fin 20, f ⟨128 * t.val + l.val, by omega⟩ ≤ c := by
  rw [← max_twenty (fun t => f ⟨128 * t.val + l.val, by omega⟩)]
  unfold laneMax
  refine iff_of_eq (congrArg (· ≤ c) ?_)
  iterate 10 (refine congrArg₂ max ?_ (congrArg₂ max (congrArg f (Fin.ext (by simp <;> omega))) (congrArg f (Fin.ext (by simp <;> omega)))))
  rfl

theorem max_lanes (f : Fin 2560 → EReal) (hf : ∀ j, 0 ≤ f j) :
    Finset.univ.fold max ⊥ f = Finset.univ.fold max ⊥ fun l : Fin 128 => laneMax f l := by
  refine eq_of_forall_ge_iff fun c => ?_
  simp only [Finset.fold_max_le, bot_le, true_and, Finset.mem_univ, forall_const, laneMax_le]
  constructor
  · exact fun h l => ⟨(hf 0).trans (h 0), fun t => h _⟩
  · intro h j
    have := (h ⟨j.val % 128, by omega⟩).2 ⟨j.val / 128, by omega⟩
    convert this using 3
    show j.val = 128 * (j.val / 128) + j.val % 128
    omega

theorem abs_nonneg' (x : EReal) : 0 ≤ max x (-x) := by
  rcases le_total 0 x with h | h
  · exact h.trans (le_max_left _ _)
  · exact (EReal.neg_nonneg.mpr h).trans (le_max_right _ _)

end Cert.Hand

end
-- ==== Proof.Scale.lean ====
module

public import proofs.«01_k».proof.Proof.Row
public import Idealize.ShloMosaic.Lib.IdealHost

@[expose] public section

set_option maxRecDepth 16384

noncomputable section

namespace Cert.Hand

open Idealize.ShloMosaic

/-! ## Constants -/

/-- The power of two that an exponent field alone stands for. -/
theorem ofBits_field (n : ℕ) (h0 : 0 < n) (h : n < 255) :
    Ideal.ofBits .f32 (BitVec.ofNat 32 (n * 8388608)) = (((2 : ℝ) ^ ((n : ℤ) - 127) : ℝ) : EReal) := by
  have hw : (BitVec.ofNat 32 (n * 8388608)).toNat = n * 8388608 := by
    rw [BitVec.toNat_ofNat]; exact Nat.mod_eq_of_lt (by omega)
  generalize BitVec.ofNat 32 (n * 8388608) = w at hw ⊢
  have e1 : (w.extractLsb' (8 + 23) 1 == 1#1) = false := by
    rw [beq_eq_false_iff_ne]
    intro hh
    have h3 := congrArg BitVec.toNat hh
    rw [BitVec.extractLsb'_toNat, hw, Nat.shiftRight_eq_div_pow, show (2 : ℕ) ^ (8 + 23) = 2147483648 from rfl, show (2 : ℕ) ^ 1 = 2 from rfl,
      show (1#1).toNat = 1 from rfl] at h3
    omega
  have e2 : (w.extractLsb' 23 8).toNat = n := by
    rw [BitVec.extractLsb'_toNat, hw, Nat.shiftRight_eq_div_pow, show (2 : ℕ) ^ 23 = 8388608 from rfl, show (2 : ℕ) ^ 8 = 256 from rfl]
    omega
  have e3 : (w.extractLsb' 0 23).toNat = 0 := by
    rw [BitVec.extractLsb'_toNat, hw, Nat.shiftRight_eq_div_pow, show (2 : ℕ) ^ 23 = 8388608 from rfl, show (2 : ℕ) ^ 0 = 1 from rfl]
    omega
  show Ideal.ieee 8 23 _ = _
  unfold Ideal.ieee
  simp only [e1, e2, e3]
  rw [if_neg (by norm_num; omega), if_neg (by omega)]
  congr 1
  have : (2 : ℝ) ^ ((n : ℤ) - 127) = 2 ^ (23 : ℤ) * (2 : ℝ) ^ ((n : ℤ) - 127 - 23) := by
    rw [← zpow_add₀ (by norm_num)]; congr 1; ring
  rw [this]
  norm_num

theorem ofBits_top : Ideal.ofBits .f32 0x7F800000#32 = ⊤ := by
  simp [Ideal.ofBits, Ideal.ieee]

theorem ofBits_tiny : Ideal.ofBits .f32 0x00800000#32 = (((2 : ℝ) ^ (-126 : ℤ) : ℝ) : EReal) :=
  ofBits_field 1 (by omega) (by omega)

theorem ofBits_two : Ideal.ofBits .f32 0x40000000#32 = ((2 : ℝ) : EReal) :=
  (ofBits_field 128 (by omega) (by omega)).trans (by norm_num)

theorem ofBits_largest : Ideal.ofBits .f32 0x7F7FFFFF#32 = (((2 ^ 24 - 1) * 2 ^ 104 : ℝ) : EReal) := by
  simp [Ideal.ofBits, Ideal.ieee, -EReal.coe_mul]; norm_num

theorem ofBits_c : Ideal.ofBits .f32 0x3B124925#32 = (((9586981 : ℝ) / 2 ^ 32 : ℝ) : EReal) := by
  simp [Ideal.ofBits, Ideal.ieee, -EReal.coe_mul]; norm_num

theorem ofBits_width : Ideal.ofBits .f32 0x45200000#32 = ((2560 : ℝ) : EReal) := by
  simp [Ideal.ofBits, Ideal.ieee, -EReal.coe_mul]; norm_num

theorem ofBits_eps : Ideal.ofBits .f32 0x3727C5AC#32 = (((10995116 : ℝ) / 2 ^ 40 : ℝ) : EReal) := by
  simp [Ideal.ofBits, Ideal.ieee, -EReal.coe_mul]; norm_num

/-! ## The search for the exponent field -/

/-- The value at which the search's field `n` starts. -/
def start (n : ℕ) : EReal := Ideal.ofBits .f32 (BitVec.ofNat 32 (n * 8388608))

theorem shl_ofNat (n : ℕ) : IntOp.shli .vector (BitVec.ofNat 32 n) 23#32 = BitVec.ofNat 32 (n * 8388608) := by
  unfold IntOp.shli
  rw [if_pos (by decide)]
  apply BitVec.eq_of_toNat_eq
  simp [BitVec.toNat_shiftLeft, Nat.shiftLeft_eq]

theorem bstep_ofNat (v : EReal) (b n : ℕ) :
    bstep v (BitVec.ofNat 32 b) (BitVec.ofNat 32 n) = BitVec.ofNat 32 (if start (n + b) ≤ v then n + b else n) := by
  unfold bstep
  have : IntOp.addi (BitVec.ofNat 32 n) (BitVec.ofNat 32 b) = BitVec.ofNat 32 (n + b) := (BitVec.ofNat_add n b).symm
  rw [this, shl_ofNat]
  show (if BitVec.ofBool (decide (start (n + b) ≤ v)) = 1#1 then BitVec.ofNat 32 (n + b) else BitVec.ofNat 32 n) = _
  by_cases h : start (n + b) ≤ v
  · rw [decide_eq_true h, if_pos h]; rfl
  · rw [decide_eq_false h, if_neg h]; rfl

/-- What the search knows when the bits from `2 b` up are decided. -/
def Found (v : EReal) (c : BitVec 32) (b : ℕ) : Prop :=
  ∃ n, c = BitVec.ofNat 32 n ∧ n + b ≤ 256 ∧ (n = 0 ∨ start n ≤ v) ∧ (n + b = 256 ∨ v < start (n + b))

theorem Found.step {v : EReal} {c : BitVec 32} {b : ℕ} (h : Found v c (b + b)) : Found v (bstep v (BitVec.ofNat 32 b) c) b := by
  obtain ⟨n, rfl, h1, h2, h3⟩ := h
  rw [bstep_ofNat]
  by_cases hs : start (n + b) ≤ v
  · rw [if_pos hs]
    exact ⟨n + b, rfl, by omega, Or.inr hs, by rw [Nat.add_assoc]; exact h3⟩
  · rw [if_neg hs]
    exact ⟨n, rfl, by omega, h2, Or.inr (not_le.mp hs)⟩

theorem bfield_spec (v : EReal) : ∃ n : ℕ, bfield v = BitVec.ofNat 32 n ∧ n ≤ 255 ∧ (n = 0 ∨ start n ≤ v) ∧ (n = 255 ∨ v < start (n + 1)) := by
  have h0 : Found v 0#32 (128 + 128) := ⟨0, rfl, by omega, Or.inl rfl, Or.inl rfl⟩
  have h1 : Found v _ (64 + 64) := h0.step
  have h2 : Found v _ (32 + 32) := h1.step
  have h3 : Found v _ (16 + 16) := h2.step
  have h4 : Found v _ (8 + 8) := h3.step
  have h5 : Found v _ (4 + 4) := h4.step
  have h6 : Found v _ (2 + 2) := h5.step
  have h7 : Found v _ (1 + 1) := h6.step
  obtain ⟨n, e, a, b, c⟩ := h7.step
  exact ⟨n, e, by omega, b, by rcases c with c | c; · exact Or.inl (by omega)
                               · exact Or.inr c⟩

/-! ## The exponent -/

/-- The exponent that the reference computes from `v`. -/
def eVal (v : EReal) : EReal :=
  Scalar.select (IntOp.andi (Ideal.cmp .oge v (Ideal.ofBits .f32 0x00800000#32)) (Ideal.cmp .olt v (Ideal.ofBits .f32 0x7F800000#32)))
    (Ideal.liftRound Int.floor (Ideal.div (Ideal.log v) (Ideal.log (Ideal.ofBits .f32 0x40000000#32))) + Ideal.ofBits .f32 0x3F800000#32) 0

theorem eVal_small (v : EReal) (h : v < Ideal.ofBits .f32 0x00800000#32) : eVal v = 0 := by
  unfold eVal Ideal.cmp
  simp [not_le.mpr h, Scalar.select, IntOp.andi]

theorem eVal_mid (r : ℝ) (k : ℤ) (hk : -126 ≤ k) (h1 : (2 : ℝ) ^ k ≤ r) (h2 : r < (2 : ℝ) ^ (k + 1)) :
    eVal (r : EReal) = (((k + 1 : ℤ) : ℝ) : EReal) := by
  have hr : 0 < r := lt_of_lt_of_le (by positivity) h1
  have hc1 : Ideal.ofBits .f32 0x00800000#32 ≤ (r : EReal) := by
    rw [ofBits_tiny]
    exact EReal.coe_le_coe_iff.mpr (le_trans (zpow_le_zpow_right₀ (by norm_num) hk) h1)
  have hc2 : (r : EReal) < Ideal.ofBits .f32 0x7F800000#32 := by rw [ofBits_top]; exact EReal.coe_lt_top r
  have hl2 : 0 < Real.log 2 := Real.log_pos (by norm_num)
  have hfl : ⌊Real.log r * (1 / Real.log 2)⌋ = k := by
    rw [mul_one_div, Int.floor_eq_iff]
    constructor
    · rw [le_div_iff₀ hl2, ← Real.log_zpow]
      exact Real.log_le_log (by positivity) h1
    · rw [div_lt_iff₀ hl2]
      have := Real.log_lt_log hr h2
      rw [Real.log_zpow] at this
      push_cast at this
      exact this
  unfold eVal Ideal.cmp
  rw [ofBits_two, Ideal.ofBits_one_f32, Ideal.log_coe, Ideal.log_coe, if_neg (not_le.mpr hr), if_neg (by norm_num), Ideal.div_coe hl2.ne', ← EReal.coe_mul]
  simp only [hc1, hc2, decide_true]
  show ((⌊Real.log r * (1 / Real.log 2)⌋ : ℝ) : EReal) + 1 = _
  rw [hfl]
  push_cast
  rfl

theorem pow_two (k : ℤ) : Ideal.pow (Ideal.ofBits .f32 0x40000000#32) (((k : ℤ) : ℝ) : EReal) = (((2 : ℝ) ^ k : ℝ) : EReal) := by
  rw [ofBits_two]
  show ((Real.rpow 2 (k : ℝ) : ℝ) : EReal) = _
  exact congrArg _ (Real.rpow_intCast 2 k)

/-- The kernel's exponent word and the reference's exponent give the same scale and the same inverse. -/
theorem scale_eq (m v : EReal) (hm : m = 0 → v = 0) (hv : v < (((2 : ℝ) ^ (125 : ℤ) : ℝ) : EReal)) :
    Ideal.ofBits .f32 (IntOp.shli .vector (IntOp.addi (eWord m v) 127#32) 23#32) = Ideal.pow (Ideal.ofBits .f32 0x40000000#32) (eVal v)
    ∧ Ideal.ofBits .f32 (IntOp.shli .vector (IntOp.addi (IntOp.subi 0#32 (eWord m v)) 127#32) 23#32) = Ideal.pow (Ideal.ofBits .f32 0x40000000#32) (-eVal v) := by
  obtain ⟨n, hn, hn1, hn2, hn3⟩ := bfield_spec v
  have key : ∀ k : ℤ, -125 ≤ k → k ≤ 125 → eWord m v = BitVec.ofInt 32 k → eVal v = ((k : ℝ) : EReal) →
      Ideal.ofBits .f32 (IntOp.shli .vector (IntOp.addi (eWord m v) 127#32) 23#32) = Ideal.pow (Ideal.ofBits .f32 0x40000000#32) (eVal v)
      ∧ Ideal.ofBits .f32 (IntOp.shli .vector (IntOp.addi (IntOp.subi 0#32 (eWord m v)) 127#32) 23#32) = Ideal.pow (Ideal.ofBits .f32 0x40000000#32) (-eVal v) := by
    intro k k1 k2 hw he
    obtain ⟨a, ha⟩ : ∃ a : ℕ, (a : ℤ) = k + 127 := ⟨(k + 127).toNat, by omega⟩
    obtain ⟨b, hb⟩ : ∃ b : ℕ, (b : ℤ) = -k + 127 := ⟨(-k + 127).toNat, by omega⟩
    have wa : IntOp.addi (eWord m v) 127#32 = BitVec.ofNat 32 a := by
      rw [hw, ← BitVec.ofInt_natCast (w := 32) a, ha, BitVec.ofInt_add]; rfl
    have wb : IntOp.addi (IntOp.subi 0#32 (eWord m v)) 127#32 = BitVec.ofNat 32 b := by
      rw [hw, ← BitVec.ofInt_natCast (w := 32) b, hb, BitVec.ofInt_add, BitVec.ofInt_neg]
      show 0#32 - BitVec.ofInt 32 k + 127#32 = _
      rw [BitVec.zero_sub]; rfl
    rw [wa, wb, shl_ofNat, shl_ofNat, ofBits_field a (by omega) (by omega), ofBits_field b (by omega) (by omega), he, pow_two]
    refine ⟨by rw [ha]; congr 2; ring, ?_⟩
    rw [← EReal.coe_neg, ← Int.cast_neg, pow_two, hb]; congr 2; ring
  by_cases h0 : n = 0
  · subst h0
    refine key 0 (by omega) (by omega) ?_ ?_
    · unfold eWord; rw [hn]
      exact if_pos (by
        show (1#1 ||| 0#1 ||| Ideal.cmp .oeq m (Ideal.ofBits .f32 0x00000000#32) : BitVec 1) = 1#1
        generalize Ideal.cmp .oeq m (Ideal.ofBits .f32 0x00000000#32) = q
        revert q; decide)
    · rw [eVal_small]; · simp
      rcases hn3 with h | h; · exact absurd h (by decide)
      exact h
  · have hs : start n ≤ v := hn2.resolve_left h0
    have h255 : n < 252 := by
      by_contra hge
      have : (((2 : ℝ) ^ (125 : ℤ) : ℝ) : EReal) ≤ start n := by
        by_cases h5 : n = 255
        · subst h5
          rw [show start 255 = ⊤ from ofBits_top]; exact le_top
        · unfold start
          rw [ofBits_field n (by omega) (by omega)]
          exact EReal.coe_le_coe_iff.mpr (zpow_le_zpow_right₀ (by norm_num) (by omega))
      exact absurd (lt_of_lt_of_le hv (this.trans hs)) (lt_irrefl _)
    have hlt : v < start (n + 1) := hn3.resolve_left (by omega)
    unfold start at hs hlt
    rw [ofBits_field n (by omega) (by omega)] at hs
    rw [ofBits_field (n + 1) (by omega) (by omega)] at hlt
    obtain ⟨r, rfl⟩ : ∃ r : ℝ, v = r := by
      induction v with
      | bot => exact absurd hs (by simp)
      | top => exact absurd hlt (by simp)
      | coe r => exact ⟨r, rfl⟩
    have hs' := EReal.coe_le_coe_iff.mp hs
    have hlt' := EReal.coe_lt_coe_iff.mp hlt
    have hm0 : m ≠ 0 := fun h => by
      have := hm h
      have h3 : r = 0 := by exact_mod_cast this
      subst h3
      exact absurd hs' (not_le.mpr (by positivity))
    refine key ((n : ℤ) - 126) (by omega) (by omega) ?_ ?_
    · unfold eWord
      rw [hn]
      have q1 : (BitVec.ofNat 32 n == 0#32) = false := by
        rw [beq_eq_false_iff_ne]; intro hh
        have := congrArg BitVec.toNat hh
        simp at this; omega
      have q2 : (BitVec.ofNat 32 n == 255#32) = false := by
        rw [beq_eq_false_iff_ne]; intro hh
        have := congrArg BitVec.toNat hh
        simp at this; omega
      have q3 : Ideal.cmp .oeq m (Ideal.ofBits .f32 0x00000000#32) = 0#1 := by
        unfold Ideal.cmp; rw [Ideal.ofBits_zero_f32]; simp [hm0]
      rw [q3]
      have : IntOp.subi (BitVec.ofNat 32 n) 126#32 = BitVec.ofInt 32 ((n : ℤ) - 126) := by
        rw [Int.sub_eq_add_neg, BitVec.ofInt_add, BitVec.ofInt_natCast]
        show BitVec.ofNat 32 n - 126#32 = _
        rw [BitVec.sub_eq_add_neg]; rfl
      rw [this]
      simp [IntOp.cmpi, IntOp.ori, Scalar.select, q1, q2]
    · rw [eVal_mid r ((n : ℤ) - 127) (by omega) hs' (by convert hlt' using 2; push_cast; ring)]
      congr 2; ring

/-! ## The bound on a row -/

theorem real_of {x : EReal} (h1 : x ≠ ⊥) (h2 : x ≠ ⊤) : ∃ r : ℝ, x = r := ⟨x.toReal, (EReal.coe_toReal h2 h1).symm⟩

namespace RowIn

variable (R : RowIn)

theorem sq_nonneg' (x : EReal) : 0 ≤ x * x := by
  rcases le_total 0 x with h | h
  · exact mul_nonneg h h
  · rw [← neg_mul_neg]; exact mul_nonneg (EReal.neg_nonneg.mpr h) (EReal.neg_nonneg.mpr h)

/-- A row with an infinite element normalizes to zero. -/
theorem rs_zero (j : Fin 2560) (h : R.h j * R.h j = ⊤) : R.rs = 0 := by
  have hs : R.ss = ⊤ := by
    refine top_le_iff.mp ?_
    rw [← h]
    exact Finset.single_le_sum (f := fun j => R.h j * R.h j) (fun i _ => sq_nonneg' (R.h i)) (Finset.mem_univ j)
  unfold rs
  rw [hs, ofBits_width, ofBits_eps, Ideal.div_coe (by norm_num)]
  rw [EReal.top_mul_coe_of_pos (by norm_num), EReal.top_add_coe, Ideal.rsqrt_top]

/-- The normalized row before `gamma` is within the root of the width. -/
theorem unit_bound (j : Fin 2560) : ∃ q : ℝ, R.h j * R.rs = q ∧ |q| ≤ 51 := by
  by_cases hinf : ∃ i, R.h i * R.h i = ⊤
  · obtain ⟨i, hi⟩ := hinf
    exact ⟨0, by rw [R.rs_zero i hi, mul_zero]; rfl, by norm_num⟩
  · have hre : ∀ i, ∃ r : ℝ, R.h i = r := by
      intro i
      refine real_of (fun hh => hinf ⟨i, ?_⟩) (fun hh => hinf ⟨i, ?_⟩)
      · rw [hh]; exact EReal.bot_mul_bot
      · rw [hh]; exact EReal.top_mul_top
    choose f hf using hre
    have hsum : ∀ s : Finset (Fin 2560), ∑ i ∈ s, R.h i * R.h i = ((∑ i ∈ s, f i * f i : ℝ) : EReal) := by
      intro s
      induction s using Finset.induction_on with
      | empty => rfl
      | insert a s ha ih => rw [Finset.sum_insert ha, Finset.sum_insert ha, EReal.coe_add, EReal.coe_mul, ih, hf a]
    have hss : R.ss = ((∑ i, f i * f i : ℝ) : EReal) := hsum Finset.univ
    have hS : f j * f j ≤ ∑ i, f i * f i :=
      Finset.single_le_sum (f := fun i => f i * f i) (fun i _ => mul_self_nonneg (f i)) (Finset.mem_univ j)
    set S : ℝ := ∑ i, f i * f i
    have hS0 : 0 ≤ S := (mul_self_nonneg (f j)).trans hS
    set u : ℝ := S * (1 / 2560) + 10995116 / 2 ^ 40 with hu
    have hu0 : 0 < u := by positivity
    have hrs : R.rs = (((Real.sqrt u)⁻¹ : ℝ) : EReal) := by
      unfold rs
      rw [hss, ofBits_width, ofBits_eps, Ideal.div_coe (by norm_num), ← EReal.coe_mul, ← EReal.coe_add, Ideal.rsqrt_coe,
        if_neg (not_lt.mpr hu0.le), if_neg hu0.ne']
    refine ⟨f j * (Real.sqrt u)⁻¹, by rw [hf j, hrs, EReal.coe_mul], ?_⟩
    refine abs_le_of_sq_le_sq' ?_ (by norm_num) |> abs_le.mpr
    rw [mul_pow, inv_pow, Real.sq_sqrt hu0.le, ← div_eq_mul_inv, div_le_iff₀ hu0]
    nlinarith

variable (hg : ∀ j, max (R.g j) (-R.g j) ≤ Ideal.ofBits .f32 0x7F7FFFFF#32)

include hg in
theorem y_bound (j : Fin 2560) : max (R.y j) (-R.y j) ≤ (((51 * 2 ^ 128 : ℝ)) : EReal) := by
  obtain ⟨q, hq, hq2⟩ := R.unit_bound j
  have h := hg j
  rw [ofBits_largest, max_le_iff] at h
  obtain ⟨r, hr⟩ : ∃ r : ℝ, R.g j = r := by
    refine real_of (fun hh => ?_) (fun hh => ?_)
    · have h2 := h.2
      rw [hh, EReal.neg_bot] at h2
      exact EReal.coe_ne_top _ (top_le_iff.mp h2)
    · have h1 := h.1
      rw [hh] at h1
      exact EReal.coe_ne_top _ (top_le_iff.mp h1)
  rw [hr] at h
  have h1 := EReal.coe_le_coe_iff.mp h.1
  have h2 : -r ≤ (2 ^ 24 - 1) * 2 ^ 104 := by
    have := h.2; rw [← EReal.coe_neg] at this; exact EReal.coe_le_coe_iff.mp this
  have habs : |r| ≤ 2 ^ 128 := abs_le.mpr ⟨by linarith, by linarith⟩
  have hy : R.y j = ((q * r : ℝ) : EReal) := by unfold y; rw [hq, hr, EReal.coe_mul]
  have hqr : |q * r| ≤ 51 * 2 ^ 128 := by
    rw [abs_mul]; exact mul_le_mul hq2 habs (abs_nonneg _) (by norm_num)
  rw [hy, max_le_iff, ← EReal.coe_neg]
  exact ⟨EReal.coe_le_coe_iff.mpr (abs_le.mp hqr).2, EReal.coe_le_coe_iff.mpr (by linarith [(abs_le.mp hqr).1])⟩

theorem am_nonneg : 0 ≤ R.am := by
  unfold am
  rw [Finset.le_fold_max]
  exact Or.inr ⟨0, Finset.mem_univ _, abs_nonneg' _⟩

include hg in
theorem v_bound : R.v < (((2 : ℝ) ^ (125 : ℤ) : ℝ) : EReal) := by
  have ha : R.am ≤ (((51 * 2 ^ 128 : ℝ)) : EReal) := by
    unfold am
    rw [Finset.fold_max_le]
    exact ⟨bot_le, fun j _ => R.y_bound hg j⟩
  have h0 := R.am_nonneg
  obtain ⟨r, hr⟩ : ∃ r : ℝ, R.am = r := by
    refine real_of (fun hh => ?_) (fun hh => ?_)
    · rw [hh] at h0; exact absurd (le_bot_iff.mp h0) (by simp)
    · rw [hh] at ha; exact EReal.coe_ne_top _ (top_le_iff.mp ha)
  unfold v
  rw [hr] at ha ⊢
  have ha' := EReal.coe_le_coe_iff.mp ha
  rw [ofBits_c, ← EReal.coe_mul]
  refine EReal.coe_lt_coe_iff.mpr ?_
  norm_num at ha' ⊢
  linarith

include hg in
theorem sc_eq : R.scK = R.sc ∧ R.invK = R.inv :=
  scale_eq R.am R.v (fun h => by unfold v; rw [h, zero_mul]) (R.v_bound hg)

include hg in
theorem code_eq (j : Fin 2560) : R.codeK j = R.code j := by
  unfold codeK code
  rw [(R.sc_eq hg).2]

end RowIn

end Cert.Hand

end
-- ==== Proof.RefRows.lean ====
module

public import proofs.«01_k».proof.Proof.Row
public import proofs.«01_k».proof.Proof.Gen.ReferenceIdeal.Value
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen Cert.Hand
open Idealize.ShloMosaic Idealize.ShloMosaic.TcCoe Idealize.SL.Sem

variable (m : (ℓ : Loc nD τ sig) → Buf (Elt Ideal) ℓ)

/-- The inputs of row `b`, `s`. -/
def row (c : Dev nD) (b : Fin 12) (s : Fin 1024) : RowIn where
  x j := m ((c.tc : Thread nD τ).loc main_arg0) (ix3 b s j)
  a j := m ((c.tc : Thread nD τ).loc main_arg1) (ix3 b s j)
  b j := m ((c.tc : Thread nD τ).loc main_arg2) (ix1 j)
  w j := m ((c.tc : Thread nD τ).loc main_arg3) (ix3 b s j)
  g j := m ((c.tc : Thread nD τ).loc main_arg4) (ix1 j)

variable (W : Valuation τ sig (Elt Ideal)) (R : Fin 12 → Fin 1024 → RowIn)

theorem ofBits_bot : Ideal.ofBits .f32 0xFF800000#32 = ⊥ := by
  simp [Ideal.ofBits, Ideal.ieee]

theorem ofBits_zero : Ideal.ofBits .f32 0x00000000#32 = 0 := by
  simp [Ideal.ofBits, Ideal.ieee]

theorem s_arg0 : StableHlo.after hostOps0 W (Proc.devRef Proc.tc main_arg0) = W (Proc.devRef Proc.tc main_arg0) := by
  entry_read
  rfl

theorem s_arg4 : StableHlo.after hostOps0 W (Proc.devRef Proc.tc main_arg4) = W (Proc.devRef Proc.tc main_arg4) := by
  entry_read
  rfl

theorem s1_arg0 : StableHlo.after hostOps0_1 W (Proc.devRef Proc.tc main_arg0) = W (Proc.devRef Proc.tc main_arg0) := by
  entry_read
  rfl

theorem s1_arg4 : StableHlo.after hostOps0_1 W (Proc.devRef Proc.tc main_arg4) = W (Proc.devRef Proc.tc main_arg4) := by
  entry_read
  rfl

theorem s1_v1 : StableHlo.after hostOps0_1 W (Proc.devRef Proc.tc main_v1) = W (Proc.devRef Proc.tc main_v1) := by
  entry_read
  rfl

theorem s2_v1 : StableHlo.after hostOps0_2 W (Proc.devRef Proc.tc main_v1) = W (Proc.devRef Proc.tc main_v1) := by
  entry_read
  rfl

theorem s3_v1 : StableHlo.after hostOps0_3 W (Proc.devRef Proc.tc main_v1) = W (Proc.devRef Proc.tc main_v1) := by
  entry_read
  rfl

theorem s3_v11 : StableHlo.after hostOps0_3 W (Proc.devRef Proc.tc main_v11) = W (Proc.devRef Proc.tc main_v11) := by
  entry_read
  rfl

theorem s3_v19 : StableHlo.after hostOps0_3 W (Proc.devRef Proc.tc main_v19) = W (Proc.devRef Proc.tc main_v19) := by
  entry_read
  rfl

theorem s3_v25 : StableHlo.after hostOps0_3 W (Proc.devRef Proc.tc main_v25) = W (Proc.devRef Proc.tc main_v25) := by
  entry_read
  rfl

theorem s4_v1 : StableHlo.after hostOps0_4 W (Proc.devRef Proc.tc main_v1) = W (Proc.devRef Proc.tc main_v1) := by
  entry_read
  rfl

theorem s4_v11 : StableHlo.after hostOps0_4 W (Proc.devRef Proc.tc main_v11) = W (Proc.devRef Proc.tc main_v11) := by
  entry_read
  rfl

theorem s4_v19 : StableHlo.after hostOps0_4 W (Proc.devRef Proc.tc main_v19) = W (Proc.devRef Proc.tc main_v19) := by
  entry_read
  rfl

theorem s5_v1 : StableHlo.after hostOps0_5 W (Proc.devRef Proc.tc main_v1) = W (Proc.devRef Proc.tc main_v1) := by
  entry_read
  rfl

theorem s5_v11 : StableHlo.after hostOps0_5 W (Proc.devRef Proc.tc main_v11) = W (Proc.devRef Proc.tc main_v11) := by
  entry_read
  rfl

theorem s5_v19 : StableHlo.after hostOps0_5 W (Proc.devRef Proc.tc main_v19) = W (Proc.devRef Proc.tc main_v19) := by
  entry_read
  rfl

theorem s5_v44 : StableHlo.after hostOps0_5 W (Proc.devRef Proc.tc main_v44) = W (Proc.devRef Proc.tc main_v44) := by
  entry_read
  rfl

theorem s6_v19 : StableHlo.after hostOps0_6 W (Proc.devRef Proc.tc main_v19) = W (Proc.devRef Proc.tc main_v19) := by
  entry_read
  rfl

theorem s6_v44 : StableHlo.after hostOps0_6 W (Proc.devRef Proc.tc main_v44) = W (Proc.devRef Proc.tc main_v44) := by
  entry_read
  rfl

theorem read_v1 (hw : ∀ b s j, W (Proc.devRef Proc.tc main_arg3) (ix3 b s j) = (R b s).w j) (b : Fin 12) (s : Fin 1024) (j : Fin 2560) :
    StableHlo.after hostOps0 W (Proc.devRef Proc.tc main_v1) (ix3 b s j) = (R b s).keep j := by
  entry_read
  pointwise
  rw [hw]
  rfl

theorem read_v7 (ha : ∀ b s j, W (Proc.devRef Proc.tc main_arg1) (ix3 b s j) = (R b s).a j)
    (hb : ∀ b s j, W (Proc.devRef Proc.tc main_arg2) (ix1 j) = (R b s).b j) (b : Fin 12) (s : Fin 1024) (j : Fin 2560) :
    StableHlo.after hostOps0 W (Proc.devRef Proc.tc main_v7) (ix3 b s j) = ((R b s).a j + (R b s).b j) * Ideal.ofBits .f32 0x3F8E38E4#32 := by
  entry_read
  pointwise
  rw [ha, hb b s j]

theorem read_cst_0 : StableHlo.after hostOps0 W (Proc.devRef Proc.tc main_cst_0) = fun _ => Ideal.ofBits .f32 0x00000000#32 := by
  entry_read
  rfl

theorem read_v8 (b : Fin 12) (s : Fin 1024) (j : Fin 2560) (k : BitVec 1) (v z : EReal)
    (h1 : W (Proc.devRef Proc.tc main_v1) (ix3 b s j) = k) (h7 : W (Proc.devRef Proc.tc main_v7) (ix3 b s j) = v)
    (h0 : W (Proc.devRef Proc.tc main_cst_0) = fun _ => z) :
    StableHlo.after hostOps0_1 W (Proc.devRef Proc.tc main_v8) (ix3 b s j) = Scalar.select k v z := by
  entry_read
  subst h1 h7
  refine congrArg (Scalar.select _ _) ?_
  exact congrFun h0 _

theorem of_forall {α : Sort _} {x y : α} (h : ∀ Q : α → Prop, Q y → Q x) : x = y := h (· = y) rfl

/-- The largest magnitude of each row. -/
def g27 (Y : FVec Ideal S12x1024x2560 .f32) : FVec Ideal S12x1024 .f32 :=
  Host.reduce FloatOps.maximumf (Host.absf Y) (constant S_ .f32 0xFF800000#32) reducesTo_S12x1024x2560_S12x1024_d2 h_S_

/-- That over the largest code. -/
def g29 (v : FVec Ideal S12x1024 .f32) : FVec Ideal S12x1024 .f32 :=
  mulf v (broadcastInDim S12x1024 ![] bcast_S_S12x1024 (constant S_ .f32 0x3B124925#32))

/-- Whether that is a normal finite number. -/
def g34 (v : FVec Ideal S12x1024 .f32) : IVec S12x1024 1 :=
  andi (cmpf .oge v (broadcastInDim S12x1024 ![] bcast_S_S12x1024 (constant S_ .f32 0x00800000#32)))
    (cmpf .olt v (broadcastInDim S12x1024 ![] bcast_S_S12x1024 (constant S_ .f32 0x7F800000#32)))

/-- One more than the rounded-down binary logarithm of that. -/
def g41 (v : FVec Ideal S12x1024 .f32) : FVec Ideal S12x1024 .f32 :=
  addf (Host.floor (Host.divf (Host.log v) (broadcastInDim S12x1024 ![] bcast_S_S12x1024 (Host.log (constant S_ .f32 0x40000000#32)))))
    (broadcastInDim S12x1024 ![] bcast_S_S12x1024 (constant S_ .f32 0x3F800000#32))

theorem g27_at (Y : FVec Ideal S12x1024x2560 .f32) (b : Fin 12) (s : Fin 1024) :
    g27 Y (ix2 b s) = Finset.univ.fold max ⊥ fun j : Fin 2560 => max (Y (ix3 b s j)) (-Y (ix3 b s j)) := by
  refine of_forall fun Q hQ => ?_
  unfold g27
  pointwise
  simp only [ofBits_bot]
  exact hQ

theorem g29_at (v : FVec Ideal S12x1024 .f32) (b : Fin 12) (s : Fin 1024) :
    g29 v (ix2 b s) = v (ix2 b s) * Ideal.ofBits .f32 0x3B124925#32 := by
  refine of_forall fun Q hQ => ?_
  unfold g29
  pointwise
  exact hQ

theorem g34_at (v : FVec Ideal S12x1024 .f32) (b : Fin 12) (s : Fin 1024) : g34 v (ix2 b s) =
    IntOp.andi (Ideal.cmp .oge (v (ix2 b s)) (Ideal.ofBits .f32 0x00800000#32)) (Ideal.cmp .olt (v (ix2 b s)) (Ideal.ofBits .f32 0x7F800000#32)) := by
  refine of_forall fun Q hQ => ?_
  unfold g34
  pointwise
  exact hQ

theorem g41_at (v : FVec Ideal S12x1024 .f32) (b : Fin 12) (s : Fin 1024) : g41 v (ix2 b s) =
    Ideal.liftRound Int.floor (Ideal.div (Ideal.log (v (ix2 b s))) (Ideal.log (Ideal.ofBits .f32 0x40000000#32))) + Ideal.ofBits .f32 0x3F800000#32 := by
  refine of_forall fun Q hQ => ?_
  unfold g41
  pointwise
  pointwise at hQ
  exact hQ

theorem raw_v29 : StableHlo.after hostOps0_2 W (Proc.devRef Proc.tc main_v29) = g29 (g27 (StableHlo.after hostOps0_2 W (Proc.devRef Proc.tc main_v25))) := by
  unfold g29 g27
  entry_read
  rfl

theorem raw_v34 : StableHlo.after hostOps0_2 W (Proc.devRef Proc.tc main_v34) = g34 (StableHlo.after hostOps0_2 W (Proc.devRef Proc.tc main_v29)) := by
  unfold g34
  entry_read
  rfl

theorem raw_v41 : StableHlo.after hostOps0_2 W (Proc.devRef Proc.tc main_v41) = g41 (StableHlo.after hostOps0_2 W (Proc.devRef Proc.tc main_v29)) := by
  unfold g41
  entry_read
  rfl

section two

variable (hx : ∀ b s j, W (Proc.devRef Proc.tc main_arg0) (ix3 b s j) = (R b s).x j)
  (h8 : ∀ b s j, W (Proc.devRef Proc.tc main_v8) (ix3 b s j) = Scalar.select ((R b s).keep j) (((R b s).a j + (R b s).b j) * Ideal.ofBits .f32 0x3F8E38E4#32) 0)
  (hg : ∀ b s j, W (Proc.devRef Proc.tc main_arg4) (ix1 j) = (R b s).g j)

include hx h8

theorem read_v11 (b : Fin 12) (s : Fin 1024) (j : Fin 2560) :
    StableHlo.after hostOps0_2 W (Proc.devRef Proc.tc main_v11) (ix3 b s j) = (R b s).h j := by
  entry_read
  pointwise
  rw [hx, h8]
  rfl

theorem read_v19 (b : Fin 12) (s : Fin 1024) : StableHlo.after hostOps0_2 W (Proc.devRef Proc.tc main_v19) (ix2 b s) = (R b s).rs := by
  entry_read
  pointwise
  simp only [hx, h8]
  rfl

include hg

theorem read_v25 (b : Fin 12) (s : Fin 1024) (j : Fin 2560) :
    StableHlo.after hostOps0_2 W (Proc.devRef Proc.tc main_v25) (ix3 b s j) = (R b s).y j := by
  entry_read
  pointwise
  simp only [hx, h8, hg b s]
  rfl

theorem read_v29 (b : Fin 12) (s : Fin 1024) : StableHlo.after hostOps0_2 W (Proc.devRef Proc.tc main_v29) (ix2 b s) = (R b s).v := by
  rw [raw_v29, g29_at, g27_at]
  simp only [read_v25 W R hx h8 hg]
  rfl

theorem read_v34 (b : Fin 12) (s : Fin 1024) : StableHlo.after hostOps0_2 W (Proc.devRef Proc.tc main_v34) (ix2 b s) =
    IntOp.andi (Ideal.cmp .oge (R b s).v (Ideal.ofBits .f32 0x00800000#32)) (Ideal.cmp .olt (R b s).v (Ideal.ofBits .f32 0x7F800000#32)) := by
  rw [raw_v34, g34_at, read_v29 W R hx h8 hg]

theorem read_v41 (b : Fin 12) (s : Fin 1024) : StableHlo.after hostOps0_2 W (Proc.devRef Proc.tc main_v41) (ix2 b s) =
    Ideal.liftRound Int.floor (Ideal.div (Ideal.log (R b s).v) (Ideal.log (Ideal.ofBits .f32 0x40000000#32))) + Ideal.ofBits .f32 0x3F800000#32 := by
  rw [raw_v41, g41_at, read_v29 W R hx h8 hg]

end two

theorem read_cst_10 : StableHlo.after hostOps0_2 W (Proc.devRef Proc.tc main_cst_10) = fun _ => Ideal.ofBits .f32 0x00000000#32 := by
  entry_read
  rfl

theorem read_v42 (b : Fin 12) (s : Fin 1024) (k : BitVec 1) (v z : EReal)
    (h1 : W (Proc.devRef Proc.tc main_v34) (ix2 b s) = k) (h7 : W (Proc.devRef Proc.tc main_v41) (ix2 b s) = v)
    (h0 : W (Proc.devRef Proc.tc main_cst_10) = fun _ => z) :
    StableHlo.after hostOps0_3 W (Proc.devRef Proc.tc main_v42) (ix2 b s) = Scalar.select k v z := by
  entry_read
  subst h1 h7
  refine congrArg (Scalar.select _ _) ?_
  exact congrFun h0 _

theorem read_v44 (b : Fin 12) (s : Fin 1024) (h : W (Proc.devRef Proc.tc main_v42) (ix2 b s) = (R b s).e) :
    StableHlo.after hostOps0_4 W (Proc.devRef Proc.tc main_v44) (ix2 b s) = (R b s).sc := by
  entry_read
  pointwise
  rw [h]
  rfl

theorem read_v50 (b : Fin 12) (s : Fin 1024) (j : Fin 2560) (h : W (Proc.devRef Proc.tc main_v42) (ix2 b s) = (R b s).e)
    (hy : W (Proc.devRef Proc.tc main_v25) (ix3 b s j) = (R b s).y j) :
    StableHlo.after hostOps0_4 W (Proc.devRef Proc.tc main_v50) (ix3 b s j) = (R b s).y j * (R b s).inv := by
  entry_read
  pointwise
  rw [h, hy]
  rfl

theorem read_cst_13 : StableHlo.after hostOps0_4 W (Proc.devRef Proc.tc main_cst_13) = fun _ => Ideal.ofBits .f32 0xC3E00000#32 := by
  entry_read
  rfl

theorem read_cst_14 : StableHlo.after hostOps0_4 W (Proc.devRef Proc.tc main_cst_14) = fun _ => Ideal.ofBits .f32 0x43E00000#32 := by
  entry_read
  rfl

theorem read_v51 (b : Fin 12) (s : Fin 1024) (j : Fin 2560) (v lo hi : EReal) (h : W (Proc.devRef Proc.tc main_v50) (ix3 b s j) = v)
    (h0 : W (Proc.devRef Proc.tc main_cst_13) = fun _ => lo) (h1 : W (Proc.devRef Proc.tc main_cst_14) = fun _ => hi) :
    StableHlo.after hostOps0_5 W (Proc.devRef Proc.tc main_v51) (ix3 b s j) = min hi (max lo v) := by
  entry_read
  subst h
  exact congrArg₂ (min (α := EReal)) (congrFun h1 _) (congrArg₂ (max (α := EReal)) (congrFun h0 _) rfl)

theorem read_v61 (n : Fin 12288) (j : Fin 2560) : StableHlo.after hostOps0_6 W (Proc.devRef Proc.tc main_v61) (ix2 n j) =
    W (Proc.devRef Proc.tc main_v11) (ix3 ⟨n.val / 1024, by omega⟩ ⟨n.val % 1024, by omega⟩ j) := by
  entry_read
  pointwise

theorem read_v62 (n : Fin 12288) (j : Fin 2560) : StableHlo.after hostOps0_6 W (Proc.devRef Proc.tc main_v62) (ix2 n j) =
    W (Proc.devRef Proc.tc main_v51) (ix3 ⟨n.val / 1024, by omega⟩ ⟨n.val % 1024, by omega⟩ j) := by
  entry_read
  pointwise

theorem byte_bits : ∀ a b c d e f g h : BitVec 1,
    BitVec.setWidth 8 (Finset.fold IntOp.addi 0#32 (fun i : Fin 8 => IntOp.shli .host (BitVec.setWidth 32 (![a, b, c, d, e, f, g, h] i)) (BitVec.ofNat 32 i.val)) Finset.univ)
      = BitVec.ofNat 8 (∑ i : Fin 8, (![a, b, c, d, e, f, g, h] i).toNat * 2 ^ i.val) := by
  decide +kernel

theorem byte_eq (k : Fin 8 → BitVec 1) :
    BitVec.setWidth 8 (Finset.fold IntOp.addi 0#32 (fun i : Fin 8 => IntOp.shli .host (BitVec.setWidth 32 (k i)) (BitVec.ofNat 32 i.val)) Finset.univ)
      = BitVec.ofNat 8 (∑ i : Fin 8, (k i).toNat * 2 ^ i.val) := by
  have e : k = ![k 0, k 1, k 2, k 3, k 4, k 5, k 6, k 7] := by
    funext i; fin_cases i <;> rfl
  rw [e]
  exact byte_bits _ _ _ _ _ _ _ _

theorem read_v60 (h1 : ∀ b s j, W (Proc.devRef Proc.tc main_v1) (ix3 b s j) = (R b s).keep j) (n : Fin 12288) (j : Fin 320) :
    StableHlo.after hostOps0_6 W (Proc.devRef Proc.tc main_v60) (ix2 n j) = (R ⟨n.val / 1024, by omega⟩ ⟨n.val % 1024, by omega⟩).mask j := by
  entry_read
  pointwise
  simp only [h1]
  refine (byte_eq _).trans (congrArg (BitVec.ofNat 8) (Finset.sum_congr rfl fun i _ => ?_))
  refine congrArg (fun q => BitVec.toNat q * 2 ^ i.val) (congrArg (RowIn.keep _) (Fin.ext ?_))
  show j.val * 8 + i.val = 8 * j.val + i.val
  omega

/-! The host program, one stretch after the other. -/

variable (c : Dev nD)

def st0 : Valuation τ sig (Elt Ideal) := StableHlo.after hostOps0 fun b => m (c, b)
def st1 : Valuation τ sig (Elt Ideal) := StableHlo.after hostOps0_1 (st0 m c)
def st2 : Valuation τ sig (Elt Ideal) := StableHlo.after hostOps0_2 (st1 m c)
def st3 : Valuation τ sig (Elt Ideal) := StableHlo.after hostOps0_3 (st2 m c)
def st4 : Valuation τ sig (Elt Ideal) := StableHlo.after hostOps0_4 (st3 m c)
def st5 : Valuation τ sig (Elt Ideal) := StableHlo.after hostOps0_5 (st4 m c)

theorem after_append (l k : List (HloOp τ sig (Elt Ideal))) : ∀ W, StableHlo.after (l ++ k) W = StableHlo.after k (StableHlo.after l W) := by
  induction l with
  | nil => exact fun _ => rfl
  | cons o l ih => exact fun _ => ih _

theorem V_eq (r : Ref sig .tc) : V m c r = StableHlo.after hostOps0_6 (st5 m c) (Proc.devRef Proc.tc r) := by
  unfold st5 st4 st3 st2 st1 st0
  simp only [V, List.flatten_cons, List.flatten_nil, List.append_nil, after_append]

theorem x_at (b : Fin 12) (s : Fin 1024) (j : Fin 2560) : st1 m c (Proc.devRef Proc.tc main_arg0) (ix3 b s j) = (row m c b s).x j := by
  unfold st1 st0
  rw [s1_arg0, s_arg0]
  rfl

theorem g_at (b : Fin 12) (s : Fin 1024) (j : Fin 2560) : st1 m c (Proc.devRef Proc.tc main_arg4) (ix1 j) = (row m c b s).g j := by
  unfold st1 st0
  rw [s1_arg4, s_arg4]
  rfl

theorem keep0_at (b : Fin 12) (s : Fin 1024) (j : Fin 2560) : st0 m c (Proc.devRef Proc.tc main_v1) (ix3 b s j) = (row m c b s).keep j :=
  read_v1 _ (row m c) (fun _ _ _ => rfl) b s j

theorem v8_at (b : Fin 12) (s : Fin 1024) (j : Fin 2560) : st1 m c (Proc.devRef Proc.tc main_v8) (ix3 b s j) =
    Scalar.select ((row m c b s).keep j) (((row m c b s).a j + (row m c b s).b j) * Ideal.ofBits .f32 0x3F8E38E4#32) 0 :=
  read_v8 _ b s j _ _ _ (keep0_at m c b s j) (read_v7 _ (row m c) (fun _ _ _ => rfl) (fun _ _ _ => rfl) b s j)
    ((read_cst_0 _).trans (by simp only [ofBits_zero]))

theorem e_at (b : Fin 12) (s : Fin 1024) : st3 m c (Proc.devRef Proc.tc main_v42) (ix2 b s) = (row m c b s).e :=
  read_v42 _ b s _ _ _ (read_v34 _ (row m c) (x_at m c) (v8_at m c) (g_at m c) b s) (read_v41 _ (row m c) (x_at m c) (v8_at m c) (g_at m c) b s)
    ((read_cst_10 _).trans (by simp only [ofBits_zero]))

theorem keep5_at (b : Fin 12) (s : Fin 1024) (j : Fin 2560) : st5 m c (Proc.devRef Proc.tc main_v1) (ix3 b s j) = (row m c b s).keep j := by
  unfold st5 st4 st3 st2 st1
  rw [s5_v1, s4_v1, s3_v1, s2_v1, s1_v1]
  exact keep0_at m c b s j

theorem h5_at (b : Fin 12) (s : Fin 1024) (j : Fin 2560) : st5 m c (Proc.devRef Proc.tc main_v11) (ix3 b s j) = (row m c b s).h j := by
  unfold st5 st4 st3 st2
  rw [s5_v11, s4_v11, s3_v11]
  exact read_v11 _ (row m c) (x_at m c) (v8_at m c) b s j

theorem code5_at (b : Fin 12) (s : Fin 1024) (j : Fin 2560) : st5 m c (Proc.devRef Proc.tc main_v51) (ix3 b s j) = (row m c b s).code j := by
  refine read_v51 _ b s j _ _ _ (read_v50 _ (row m c) b s j (e_at m c b s) ?_) (read_cst_13 _) (read_cst_14 _)
  unfold st3 st2
  rw [s3_v25]
  exact read_v25 _ (row m c) (x_at m c) (v8_at m c) (g_at m c) b s j

/-- The row a row of a flattened result comes from. -/
abbrev rowAt (n : Fin 12288) : RowIn := row m c ⟨n.val / 1024, by omega⟩ ⟨n.val % 1024, by omega⟩

theorem rstd_at (b : Fin 12) (s : Fin 1024) : V m c main_v19 (ix2 b s) = (row m c b s).rs := by
  rw [V_eq, s6_v19]
  unfold st5 st4 st3 st2
  rw [s5_v19, s4_v19, s3_v19]
  exact read_v19 _ (row m c) (x_at m c) (v8_at m c) b s

theorem sc_at (b : Fin 12) (s : Fin 1024) : V m c main_v44 (ix2 b s) = (row m c b s).sc := by
  rw [V_eq, s6_v44]
  unfold st5 st4
  rw [s5_v44]
  exact read_v44 _ (row m c) b s (e_at m c b s)

theorem mask_at (n : Fin 12288) (j : Fin 320) : V m c main_v60 (ix2 n j) = (rowAt m c n).mask j := by
  rw [V_eq]
  exact read_v60 _ (row m c) (keep5_at m c) n j

theorem h_at (n : Fin 12288) (j : Fin 2560) : V m c main_v61 (ix2 n j) = (rowAt m c n).h j := by
  rw [V_eq, read_v61]
  exact h5_at m c _ _ j

theorem code_at (n : Fin 12288) (j : Fin 2560) : V m c main_v62 (ix2 n j) = (rowAt m c n).code j := by
  rw [V_eq, read_v62]
  exact code5_at m c _ _ j

/-! The last region casts the codes to their stored type. -/

theorem ix2_eta (y : S12288x2560.Idx) : y = ix2 (y 0) (y 1) := by
  funext a
  match a with
  | ⟨0, _⟩ => rfl
  | ⟨1, _⟩ => rfl

theorem index_facts : ∀ t : Fin cfg0.N, win0_0.index t = ![0, 0] ∧ win0_1.index t = ![0, 0] :=
  (by decide +kernel : ∀ t : Fin grid0.N, win0_0.index t = ![0, 0] ∧ win0_1.index t = ![0, 0])

theorem codes_eq : (dats m 0 c).arrAt 1 cfg0.N = fun y : S12288x2560.Idx => (rowAt m c (y 0)).code (y 1) := by
  refine (dats m 0 c).arrAt_eq_of_covers 1 _ (by decide +kernel) fun t hf y => ?_
  rw [after0_1]
  unfold out0_1
  rw [Value.canon1_eq]
  refine Eq.trans (b := V m c main_v62 (((cfg0.win 1).blk t).view.emb y)) ?_
    ((congrArg (V m c main_v62) (ix2_eta _)).trans (code_at m c _ _))
  show V m c main_v62 (((cfg0.win 0).blk t).view.emb (r0_0.idx (Value.ix1_0 y))) = _
  refine congrArg (V m c main_v62) (funext fun a => Fin.ext ?_)
  match a with
  | ⟨0, _⟩ =>
    blk_simp [(index_facts t).1, (index_facts t).2]
    show 0 + 1 * (y 0).val = (y 0).val
    omega
  | ⟨1, _⟩ =>
    blk_simp [(index_facts t).1, (index_facts t).2]
    show 0 + 1 * (y 1).val = (y 1).val
    omega

end Cert.ReferenceIdeal.Hand

end
-- ==== Proof.KernelIdealTrip.lean ====
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one trip of the row-group loop holds: the inputs and the pack weights at fixed contents, the written buffers. -/
abbrev Trip (c : Dev nD) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) (f_6 : Buf (Elt F) (arg6.view.loc (c : Thread nD τ))) (f_8 : Buf (Elt F) (arg8.view.loc (c : Thread nD τ))) (f_10 : Buf (Elt F) (arg10.view.loc (c : Thread nD τ))) (f_12 : Buf (Elt F) (arg12.view.loc (c : Thread nD τ))) (f_13 : Buf (Elt F) (arg13.view.loc (c : Thread nD τ))) (f_14 : Buf (Elt F) (arg14.view.loc (c : Thread nD τ))) : sProp 𝕄 :=
  iprop((arg1.view.loc (c : Thread nD τ) ↦[arg1.view.set]{fullShare} X_1)
      ∗ (arg2.view.loc (c : Thread nD τ) ↦[arg2.view.set]{fullShare} X_2)
      ∗ (arg3.view.loc (c : Thread nD τ) ↦[arg3.view.set]{fullShare} X_3)
      ∗ (arg4.view.loc (c : Thread nD τ) ↦[arg4.view.set]{fullShare} X_4)
      ∗ (arg5.view.loc (c : Thread nD τ) ↦[arg5.view.set]{fullShare} X_5)
      ∗ (arg11.view.loc (c : Thread nD τ) ↦[arg11.view.set]{fullShare} X_11)
      ∗ (arg6.view.loc (c : Thread nD τ) ↦[arg6.view.set]{fullShare} f_6)
      ∗ (arg8.view.loc (c : Thread nD τ) ↦[arg8.view.set]{fullShare} f_8)
      ∗ (arg10.view.loc (c : Thread nD τ) ↦[arg10.view.set]{fullShare} f_10)
      ∗ (arg12.view.loc (c : Thread nD τ) ↦[arg12.view.set]{fullShare} f_12)
      ∗ (arg13.view.loc (c : Thread nD τ) ↦[arg13.view.set]{fullShare} f_13)
      ∗ (arg14.view.loc (c : Thread nD τ) ↦[arg14.view.set]{fullShare} f_14))

set_option maxHeartbeats 0 in
/-- One trip of the loop at a symbolic trip number: the pieces it writes into each buffer do not depend on what the
    buffers held. -/
@[irreducible] def trip (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) (k : Fin k0_t1_loop.trips) :
    Σ' (L6 : List (View.Piece (Elt F) S256x2560 .fp8e4m3)) (L8 : List (View.Piece (Elt F) S256x320 .i8)) (L10 : List (View.Piece (Elt F) S256x2560 .bf16)) (L12 : List (View.Piece (Elt F) S32x2560 .f32)) (L13 : List (View.Piece (Elt F) S256x128 .f32)), { L14 : List (View.Piece (Elt F) S256x128 .f32) //
      ∀ (f_6 : Buf (Elt F) (arg6.view.loc (c : Thread nD τ))) (f_8 : Buf (Elt F) (arg8.view.loc (c : Thread nD τ))) (f_10 : Buf (Elt F) (arg10.view.loc (c : Thread nD τ))) (f_12 : Buf (Elt F) (arg12.view.loc (c : Thread nD τ))) (f_13 : Buf (Elt F) (arg13.view.loc (c : Thread nD τ))) (f_14 : Buf (Elt F) (arg14.view.loc (c : Thread nD τ))),
        Trip (F := F) c arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 f_6 f_8 f_10 f_12 f_13 f_14
          ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 k PUnit.unit)
            (fun _ => Trip (F := F) c arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 (arg6.view.writes (Elt F) f_6 L6) (arg8.view.writes (Elt F) f_8 L8) (arg10.view.writes (Elt F) f_10 L10) (arg12.view.writes (Elt F) f_12 L12) (arg13.view.writes (Elt F) f_13 L13) (arg14.view.writes (Elt F) f_14 L14)) } := by
  refine ⟨?_, ?_, ?_, ?_, ?_, ?_, fun f_6 f_8 f_10 f_12 f_13 f_14 => ?run⟩
  case run =>
    unfold k0_t1_body
    iintro ⟨H1, H2, H3, H4, H5, H11, H6, H8, H10, H12, H13, H14⟩
    sl_exec_parts
    sl_step
    sl_close

end Cert.KernelIdeal.Hand

end
-- ==== Proof.KernelIdealPay.lean ====
module

public import proofs.«01_k».proof.Proof.KernelIdealTrip
public import proofs.«01_k».proof.Proof.Row

@[expose] public section

set_option maxRecDepth 16384

noncomputable section

namespace Cert.KernelIdeal.Hand

open Cert.KernelIdeal Cert.KernelIdeal.Gen Cert.Hand
open Idealize.ShloMosaic Idealize.ShloMosaic.TcCoe

/-- The kept elements of a chunk, as zeros and ones. -/
abbrev keepP (w : Vec Ideal S32x256 .i32) : FVec Ideal S32x256 .bf16 := k0_pay4 w

/-- The residual sum of a chunk. -/
abbrev hP (w : Vec Ideal S32x256 .i32) (a : Vec Ideal S32x256 .bf16) (b : Vec Ideal S1x256 .f32) (x : Vec Ideal S32x256 .bf16) :
    FVec Ideal S32x256 .bf16 := k0_pay5 w a b x

/-- The running sum of squares after a chunk. -/
def ssP (s : FVec Ideal S32x128 .f32) (h : FVec Ideal S32x256 .bf16) : FVec Ideal S32x128 .f32 :=
  addf (addf s (extractStridedSlice S32x128 ![0, 0] (mulf (extf .f32 h bitsLt_bf16_f32) (extf .f32 h bitsLt_bf16_f32)) slices_S32x256_o0_0_S32x128))
    (extractStridedSlice S32x128 ![0, 128] (mulf (extf .f32 h bitsLt_bf16_f32) (extf .f32 h bitsLt_bf16_f32)) slices_S32x256_o0_128_S32x128)

/-- The normalized chunk. -/
abbrev yP (r : FVec Ideal S32x1 .f32) (h : Vec Ideal S32x256 .bf16) (g : Vec Ideal S1x256 .f32) : FVec Ideal S32x256 .f32 :=
  k0_pay57 r h g

/-- The running largest magnitude after a chunk. -/
def amP (m : FVec Ideal S32x128 .f32) (y : FVec Ideal S32x256 .f32) : FVec Ideal S32x128 .f32 :=
  maximumf m (maximumf (extractStridedSlice S32x128 ![0, 0] (absf y) slices_S32x256_o0_0_S32x128)
    (extractStridedSlice S32x128 ![0, 128] (absf y) slices_S32x256_o0_128_S32x128))

/-- The largest magnitude, from the lanes. -/
def amR (m : FVec Ideal S32x128 .f32) : FVec Ideal S32x1 .f32 :=
  shapeCast S32x1 (multiReduction .maximumf [1] S32 m 0xFF800000#32 reduces_S32x128_S32 (.inl rfl) rfl) shapeCasts_S32_S32x1

/-- The codes of a chunk. -/
abbrev codeP (r : FVec Ideal S32x1 .f32) (y : Vec Ideal S32x256 .f32) : FVec Ideal S32x256 .fp8e4m3 := k0_pay97 r y

theorem ofBits_bot : Ideal.ofBits .f32 0xFF800000#32 = ⊥ := by
  simp [Ideal.ofBits, Ideal.ieee]

theorem pay53_at (i : S32x128.Idx) : k0_pay53 (F := Ideal) i = 0 := by
  idx_vars i
  pointwise [k0_pay53]

theorem keepP_at (w : Vec Ideal S32x256 .i32) (r : Fin 32) (l : Fin 256) :
    keepP w (ix2 r l) = Scalar.select (IntOp.cmpi .uge (w (ix2 r l)) 429496730#32) (Ideal.ofBits .f32 0x3F800000#32) 0 := by
  pointwise [keepP, k0_pay4, k0_pay3]

theorem hP_at (w : Vec Ideal S32x256 .i32) (a : Vec Ideal S32x256 .bf16) (b : Vec Ideal S1x256 .f32) (x : Vec Ideal S32x256 .bf16)
    (r : Fin 32) (l : Fin 256) :
    hP w a b x (ix2 r l) = x (ix2 r l) + Scalar.select (IntOp.cmpi .uge (w (ix2 r l)) 429496730#32)
      ((a (ix2 r l) + b (ix2 0 l)) * Ideal.ofBits .f32 0x3F8E38E4#32) 0 := by
  pointwise [hP, k0_pay5, k0_pay3]

theorem ssP_at (s : FVec Ideal S32x128 .f32) (h : FVec Ideal S32x256 .bf16) (r : Fin 32) (l : Fin 128) :
    ssP s h (ix2 r l) = s (ix2 r l) + h (ix2 r ⟨l.val, by omega⟩) * h (ix2 r ⟨l.val, by omega⟩)
      + h (ix2 r ⟨128 + l.val, by omega⟩) * h (ix2 r ⟨128 + l.val, by omega⟩) := by
  pointwise [ssP]

theorem yP_at (r : FVec Ideal S32x1 .f32) (h : Vec Ideal S32x256 .bf16) (g : Vec Ideal S1x256 .f32) (p : Fin 32) (l : Fin 256) :
    yP r h g (ix2 p l) = h (ix2 p l) * r (ix2 p 0) * g (ix2 0 l) := by
  pointwise [yP, k0_pay57]

theorem amP_at (m : FVec Ideal S32x128 .f32) (y : FVec Ideal S32x256 .f32) (r : Fin 32) (l : Fin 128) :
    amP m y (ix2 r l) = max (m (ix2 r l)) (max (max (y (ix2 r ⟨l.val, by omega⟩)) (-(y (ix2 r ⟨l.val, by omega⟩))))
      (max (y (ix2 r ⟨128 + l.val, by omega⟩)) (-(y (ix2 r ⟨128 + l.val, by omega⟩))))) := by
  pointwise [amP]
  rfl

theorem amR_at (m : FVec Ideal S32x128 .f32) (r : Fin 32) (z : Fin 1) :
    amR m (ix2 r z) = Finset.univ.fold max ⊥ fun l : Fin 128 => m (ix2 r l) := by
  pointwise [amR]
  rw [ofBits_bot]

theorem rs_at (s : FVec Ideal S32x128 .f32) (r : Fin 32) (z : Fin 1) :
    k0_pay51 s (ix2 r z) = Ideal.rsqrt (Ideal.div (∑ l : Fin 128, s (ix2 r l)) (Ideal.ofBits .f32 0x45200000#32) + Ideal.ofBits .f32 0x3727C5AC#32) := by
  pointwise [k0_pay51]

theorem rsB_at (s : FVec Ideal S32x128 .f32) (r : Fin 32) (l : Fin 128) : k0_pay52 s (ix2 r l) = k0_pay51 s (ix2 r 0) := by
  pointwise [k0_pay52]

theorem codeP_at (r : FVec Ideal S32x1 .f32) (y : Vec Ideal S32x256 .f32) (p : Fin 32) (l : Fin 256) :
    codeP r y (ix2 p l) = min (Ideal.ofBits .f32 0x43E00000#32) (max (Ideal.ofBits .f32 0xC3E00000#32) (y (ix2 p l) * r (ix2 p 0))) := by
  pointwise [codeP, k0_pay97]

/-- The kernel's exponent search, from the largest magnitudes. -/
def exP (m : FVec Ideal S32x1 .f32) (c : EReal) : IVec S32x1 32 :=
  k0_pay83 m (k0_pay80 m c) (k0_pay81 m c) (k0_pay82 m c)

/-- One step of the search, over the rows. -/
def bstepV (v : FVec Ideal S32x1 .f32) (b : BitVec 32) (c : IVec S32x1 32) : IVec S32x1 32 :=
  select (cmpf .oge v (bitcastToFloat .f32 (shli (addi c (broadcast S32x1 b)) (broadcast S32x1 23#32)))) (addi c (broadcast S32x1 b)) c

theorem bstepV_at (v : FVec Ideal S32x1 .f32) (b : BitVec 32) (c : IVec S32x1 32) (i : S32x1.Idx) :
    bstepV v b c i = bstep (v i) b (c i) := rfl

/-- The exponent from the field, over the rows. -/
def eSelV (m : FVec Ideal S32x1 .f32) (f : IVec S32x1 32) : IVec S32x1 32 :=
  select (ori (ori (cmpi .eq f (broadcast S32x1 0#32)) (cmpi .eq f (broadcast S32x1 255#32)))
    (cmpf .oeq m (broadcast S32x1 (Scalar.ofBits (F := Ideal) .f32 0x00000000#32)))) (broadcast S32x1 0#32) (subi f (broadcast S32x1 126#32))

theorem eSelV_at (m : FVec Ideal S32x1 .f32) (f : IVec S32x1 32) (i : S32x1.Idx) :
    eSelV m f i = Scalar.select (IntOp.ori (IntOp.ori (IntOp.cmpi .eq (f i) 0#32) (IntOp.cmpi .eq (f i) 255#32))
      (Ideal.cmp .oeq (m i) (Ideal.ofBits .f32 0x00000000#32))) 0#32 (IntOp.subi (f i) 126#32) := rfl

theorem pay81_eq (m : FVec Ideal S32x1 .f32) (c : EReal) :
    k0_pay81 m c = bstepV (k0_pay80 m c) 16#32 (bstepV (k0_pay80 m c) 32#32 (bstepV (k0_pay80 m c) 64#32
      (bstepV (k0_pay80 m c) 128#32 (broadcast S32x1 0#32)))) := by
  with_reducible_and_instances (unfold k0_pay81 bstepV)
  rfl

theorem pay83_eq (m v : FVec Ideal S32x1 .f32) (a : IVec S32x1 32) (b : IVec S32x1 1) :
    k0_pay83 m v a b
      = eSelV m (bstepV v 1#32 (bstepV v 2#32 (bstepV v 4#32 (select b (addi a (broadcast S32x1 8#32)) a)))) := by
  with_reducible_and_instances (unfold k0_pay83 bstepV eSelV)
  rfl

theorem exP_at (m : FVec Ideal S32x1 .f32) (c : EReal) (i : S32x1.Idx) : exP m c i = eWord (m i) (m i * c) := by
  have h8 : select (k0_pay82 m c) (addi (k0_pay81 m c) (broadcast S32x1 8#32)) (k0_pay81 m c) = bstepV (k0_pay80 m c) 8#32 (k0_pay81 m c) := rfl
  have h0 : k0_pay80 m c i = m i * c := rfl
  unfold exP
  rw [pay83_eq, h8, pay81_eq, eSelV_at]
  simp only [bstepV_at, h0]
  rfl

theorem scP_at (m : FVec Ideal S32x1 .f32) (c : EReal) (p : Fin 32) (l : Fin 128) :
    k0_pay85 (F := Ideal) (k0_pay84 m (k0_pay80 m c) (k0_pay81 m c) (k0_pay82 m c)) (ix2 p l)
      = Ideal.ofBits .f32 (IntOp.shli .vector (IntOp.addi (exP m c (ix2 p 0)) 127#32) 23#32) := by
  pointwise [k0_pay85, k0_pay84, exP]

theorem invP_at (m : FVec Ideal S32x1 .f32) (c : EReal) (i : S32x1.Idx) :
    k0_pay86 (F := Ideal) (exP m c) i
      = Ideal.ofBits .f32 (IntOp.shli .vector (IntOp.addi (IntOp.subi 0#32 (exP m c i)) 127#32) 23#32) := rfl

end Cert.KernelIdeal.Hand

end
-- ==== Proof.KernelIdealRows.lean ====
module

public import proofs.«01_k».proof.Proof.KernelIdealPay

@[expose] public section

set_option maxRecDepth 16384

noncomputable section

namespace Cert.KernelIdeal.Hand

open Cert.KernelIdeal Cert.KernelIdeal.Gen Cert.Hand
open Idealize.ShloMosaic Idealize.ShloMosaic.TcCoe

theorem trips_lt (k : Fin k0_t1_loop.trips) : k.val < 8 := k.isLt

/-- Row `r` of band `k`. -/
def bandRow (k : Fin k0_t1_loop.trips) (r : Fin 32) : Fin 256 := ⟨32 * k.val + r.val, by have := trips_lt k; omega⟩

/-- Column `l` of chunk `q`. -/
def chunkCol (q : Fin 10) (l : Fin 256) : Fin 2560 := ⟨256 * q.val + l.val, by omega⟩

/-- The row inputs that a block holds. -/
def rowOf (x a : S256x2560.Idx → EReal) (b : S1x2560.Idx → EReal) (w : S256x2560.Idx → BitVec 32) (g : S1x2560.Idx → EReal)
    (p : Fin 256) : RowIn where
  x := fun j => x (ix2 p j)
  a := fun j => a (ix2 p j)
  b := fun j => b (ix2 0 j)
  w := fun j => w (ix2 p j)
  g := fun j => g (ix2 0 j)

theorem idxBand (k : Fin k0_t1_loop.trips) (q : Fin 10) (off : Fin 2 → ℕ) (inb : ∀ a, off a + S32x256.size a ≤ S256x2560.size a)
    (hoff : off = ![32 * k.val, 256 * q.val]) (r : Fin 32) (l : Fin 256) :
    (Rect.unit (s := S256x2560) off S32x256.size inb).toLoadRect.idx (ix2 r l) = ix2 (bandRow k r) (chunkCol q l) := by
  subst hoff
  funext a
  fin_cases a
  · exact Fin.ext (by simp [Rect.unit, LoadRect.idx, bandRow, ix2])
  · exact Fin.ext (by simp [Rect.unit, LoadRect.idx, chunkCol, ix2])

theorem idxY (q : Fin 10) (off : Fin 2 → ℕ) (inb : ∀ a, off a + S32x256.size a ≤ S32x2560.size a)
    (hoff : off = ![0, 256 * q.val]) (r : Fin 32) (l : Fin 256) :
    (Rect.unit (s := S32x2560) off S32x256.size inb).toLoadRect.idx (ix2 r l) = ix2 r (chunkCol q l) := by
  subst hoff
  funext a
  fin_cases a
  · exact Fin.ext (by simp [Rect.unit, LoadRect.idx, ix2])
  · exact Fin.ext (by simp [Rect.unit, LoadRect.idx, chunkCol, ix2])

theorem idxVec (q : Fin 10) (off : Fin 2 → ℕ) (inb : ∀ a, off a + S1x256.size a ≤ S1x2560.size a)
    (hoff : off = ![0, 256 * q.val]) (l : Fin 256) :
    (Rect.unit (s := S1x2560) off S1x256.size inb).toLoadRect.idx (ix2 0 l) = ix2 0 (chunkCol q l) := by
  subst hoff
  funext a
  fin_cases a
  · exact Fin.ext (by simp [Rect.unit, LoadRect.idx, ix2])
  · exact Fin.ext (by simp [Rect.unit, LoadRect.idx, chunkCol, ix2])

theorem sc_id {α : Type} (v : S32x256.Idx → α) : shapeCast S32x256 v shapeCasts_S32x256_S32x256 = v := by
  funext j
  idx_vars j
  pointwise

/-- A place of the band lies in one of the ten chunks. -/
theorem mem_band (k : Fin k0_t1_loop.trips) (q : Fin 10) (off : Fin 2 → ℕ) (inb : ∀ a, off a + S32x256.size a ≤ S256x2560.size a)
    (hoff : off = ![32 * k.val, 256 * q.val]) (y : S256x2560.Idx) (h1 : 32 * k.val ≤ (y 0).val) (h2 : (y 0).val < 32 * (k.val + 1))
    (h3 : 256 * q.val ≤ (y 1).val) (h4 : (y 1).val < 256 * (q.val + 1)) :
    y ∈ (Rect.unit (s := S256x2560) off S32x256.size inb).set := by
  subst hoff
  refine Rect.mem_set_unit.mpr fun a => ?_
  fin_cases a
  · exact ⟨h1, by show (y 0).val < 32 * k.val + 32; omega⟩
  · exact ⟨h3, by show (y 1).val < 256 * q.val + 256; omega⟩

theorem not_mem_band (k : Fin k0_t1_loop.trips) (q : Fin 10) (off : Fin 2 → ℕ) (inb : ∀ a, off a + S32x256.size a ≤ S256x2560.size a)
    (hoff : off = ![32 * k.val, 256 * q.val]) (y : S256x2560.Idx) (h : (y 0).val < 32 * k.val) :
    y ∉ (Rect.unit (s := S256x2560) off S32x256.size inb).set := by
  subst hoff
  intro hm
  have := (Rect.mem_set_unit.mp hm 0).1
  have h' : 32 * k.val ≤ (y 0).val := this
  omega

theorem mem_y (q : Fin 10) (off : Fin 2 → ℕ) (inb : ∀ a, off a + S32x256.size a ≤ S32x2560.size a)
    (hoff : off = ![0, 256 * q.val]) (y : S32x2560.Idx)
    (h3 : 256 * q.val ≤ (y 1).val) (h4 : (y 1).val < 256 * (q.val + 1)) :
    y ∈ (Rect.unit (s := S32x2560) off S32x256.size inb).set := by
  subst hoff
  refine Rect.mem_set_unit.mpr fun a => ?_
  fin_cases a
  · exact ⟨Nat.zero_le _, by show (y 0).val < 0 + 32; have : (y 0).val < 32 := (y 0).isLt; omega⟩
  · exact ⟨h3, by show (y 1).val < 256 * q.val + 256; omega⟩

section Trip

variable (c : Dev nD) (arg1 : Memref sig .tc .vmem S256x2560 .bf16) (arg2 : Memref sig .tc .vmem S256x2560 .bf16) (arg3 : Memref sig .tc .vmem S1x2560 .f32) (arg4 : Memref sig .tc .vmem S256x2560 .i32) (arg5 : Memref sig .tc .vmem S1x2560 .f32) (arg10 : Memref sig .tc .vmem S256x2560 .bf16) (arg12 : Memref sig .tc .vmem S32x2560 .f32)
  (X_1 : Buf (Elt Ideal) (arg1.view.loc (c : Thread nD τ))) (X_2 : Buf (Elt Ideal) (arg2.view.loc (c : Thread nD τ))) (X_3 : Buf (Elt Ideal) (arg3.view.loc (c : Thread nD τ))) (X_4 : Buf (Elt Ideal) (arg4.view.loc (c : Thread nD τ))) (X_5 : Buf (Elt Ideal) (arg5.view.loc (c : Thread nD τ))) (k : Fin k0_t1_loop.trips)

/-- The residual sum of a chunk, read at a place. -/
theorem hP_rd (q : Fin 10) (off : Fin 2 → ℕ) (inb : ∀ a, off a + S32x256.size a ≤ S256x2560.size a)
    (hoff : off = ![32 * k.val, 256 * q.val]) (off3 : Fin 2 → ℕ) (inb3 : ∀ a, off3 a + S1x256.size a ≤ S1x2560.size a)
    (hoff3 : off3 = ![0, 256 * q.val]) (r : Fin 32) (l : Fin 256) :
    hP (View.readAt (Elt Ideal) arg4.view (Rect.unit (s := S256x2560) off S32x256.size inb).toLoadRect X_4) (View.readAt (Elt Ideal) arg2.view (Rect.unit (s := S256x2560) off S32x256.size inb).toLoadRect X_2)
      (View.readAt (Elt Ideal) arg3.view (Rect.unit (s := S1x2560) off3 S1x256.size inb3).toLoadRect X_3) (View.readAt (Elt Ideal) arg1.view (Rect.unit (s := S256x2560) off S32x256.size inb).toLoadRect X_1) (ix2 r l)
      = ((rowOf (arg1.view.read (Elt Ideal) X_1) (arg2.view.read (Elt Ideal) X_2) (arg3.view.read (Elt Ideal) X_3) (arg4.view.read (Elt Ideal) X_4) (arg5.view.read (Elt Ideal) X_5)) (bandRow k r)).h (chunkCol q l) := by
  rw [hP_at]
  unfold View.readAt
  rw [idxBand k q off inb hoff, idxVec q off3 inb3 hoff3]
  rfl

theorem keepP_rd (q : Fin 10) (off : Fin 2 → ℕ) (inb : ∀ a, off a + S32x256.size a ≤ S256x2560.size a)
    (hoff : off = ![32 * k.val, 256 * q.val]) (r : Fin 32) (l : Fin 256) :
    keepP (View.readAt (Elt Ideal) arg4.view (Rect.unit (s := S256x2560) off S32x256.size inb).toLoadRect X_4) (ix2 r l)
      = Scalar.select (((rowOf (arg1.view.read (Elt Ideal) X_1) (arg2.view.read (Elt Ideal) X_2) (arg3.view.read (Elt Ideal) X_3) (arg4.view.read (Elt Ideal) X_4) (arg5.view.read (Elt Ideal) X_5)) (bandRow k r)).keep (chunkCol q l)) (Ideal.ofBits .f32 0x3F800000#32) 0 := by
  rw [keepP_at]
  unfold View.readAt
  rw [idxBand k q off inb hoff]
  rfl

/-- What the residual sum's window holds of the block. -/
def G10 (y : S256x2560.Idx) : EReal := ((rowOf (arg1.view.read (Elt Ideal) X_1) (arg2.view.read (Elt Ideal) X_2) (arg3.view.read (Elt Ideal) X_3) (arg4.view.read (Elt Ideal) X_4) (arg5.view.read (Elt Ideal) X_5)) (y 0)).h (y 1)

/-- What the band's normalized rows hold. -/
def G12 (y : S32x2560.Idx) : EReal := ((rowOf (arg1.view.read (Elt Ideal) X_1) (arg2.view.read (Elt Ideal) X_2) (arg3.view.read (Elt Ideal) X_3) (arg4.view.read (Elt Ideal) X_4) (arg5.view.read (Elt Ideal) X_5)) (bandRow k (y 0))).y (y 1)

theorem pieceH (q : Fin 10) (off : Fin 2 → ℕ) (inb : ∀ a, off a + S32x256.size a ≤ S256x2560.size a)
    (hoff : off = ![32 * k.val, 256 * q.val]) (off3 : Fin 2 → ℕ) (inb3 : ∀ a, off3 a + S1x256.size a ≤ S1x2560.size a)
    (hoff3 : off3 = ![0, 256 * q.val]) (x : S32x256.Idx) :
    hP (View.readAt (Elt Ideal) arg4.view (Rect.unit (s := S256x2560) off S32x256.size inb).toLoadRect X_4) (View.readAt (Elt Ideal) arg2.view (Rect.unit (s := S256x2560) off S32x256.size inb).toLoadRect X_2)
      (View.readAt (Elt Ideal) arg3.view (Rect.unit (s := S1x2560) off3 S1x256.size inb3).toLoadRect X_3) (View.readAt (Elt Ideal) arg1.view (Rect.unit (s := S256x2560) off S32x256.size inb).toLoadRect X_1) x
      = G10 c arg1 arg2 arg3 arg4 arg5 X_1 X_2 X_3 X_4 X_5 ((Rect.unit (s := S256x2560) off S32x256.size inb).emb x) := by
  obtain ⟨r, l, rfl⟩ : ∃ (r : Fin 32) (l : Fin 256), x = ix2 r l := ⟨x 0, x 1, by funext a; fin_cases a <;> rfl⟩
  rw [hP_rd c arg1 arg2 arg3 arg4 arg5 X_1 X_2 X_3 X_4 X_5 k q off inb hoff off3 inb3 hoff3]
  show _ = G10 c arg1 arg2 arg3 arg4 arg5 X_1 X_2 X_3 X_4 X_5 ((Rect.unit (s := S256x2560) off S32x256.size inb).toLoadRect.idx (ix2 r l))
  rw [idxBand k q off inb hoff]
  rfl

set_option maxHeartbeats 4000000 in
theorem H10_pieces : ∀ p ∈ trip.sl.H10_10 (F := Ideal) c arg1 arg2 arg3 arg4 X_1 X_2 X_3 X_4 k, ∀ x : p.1.shape.Idx, p.2 x = G10 c arg1 arg2 arg3 arg4 arg5 X_1 X_2 X_3 X_4 X_5 (p.1.emb x) :=
    List.forall_mem_cons.mpr ⟨pieceH c arg1 arg2 arg3 arg4 arg5 X_1 X_2 X_3 X_4 X_5 k 9 _ (k0_off10_inb k) (k0_off10_eq k) _ _ rfl,
    List.forall_mem_cons.mpr ⟨pieceH c arg1 arg2 arg3 arg4 arg5 X_1 X_2 X_3 X_4 X_5 k 8 _ (k0_off9_inb k) (k0_off9_eq k) _ _ rfl,
    List.forall_mem_cons.mpr ⟨pieceH c arg1 arg2 arg3 arg4 arg5 X_1 X_2 X_3 X_4 X_5 k 7 _ (k0_off8_inb k) (k0_off8_eq k) _ _ rfl,
    List.forall_mem_cons.mpr ⟨pieceH c arg1 arg2 arg3 arg4 arg5 X_1 X_2 X_3 X_4 X_5 k 6 _ (k0_off7_inb k) (k0_off7_eq k) _ _ rfl,
    List.forall_mem_cons.mpr ⟨pieceH c arg1 arg2 arg3 arg4 arg5 X_1 X_2 X_3 X_4 X_5 k 5 _ (k0_off6_inb k) (k0_off6_eq k) _ _ rfl,
    List.forall_mem_cons.mpr ⟨pieceH c arg1 arg2 arg3 arg4 arg5 X_1 X_2 X_3 X_4 X_5 k 4 _ (k0_off5_inb k) (k0_off5_eq k) _ _ rfl,
    List.forall_mem_cons.mpr ⟨pieceH c arg1 arg2 arg3 arg4 arg5 X_1 X_2 X_3 X_4 X_5 k 3 _ (k0_off4_inb k) (k0_off4_eq k) _ _ rfl,
    List.forall_mem_cons.mpr ⟨pieceH c arg1 arg2 arg3 arg4 arg5 X_1 X_2 X_3 X_4 X_5 k 2 _ (k0_off3_inb k) (k0_off3_eq k) _ _ rfl,
    List.forall_mem_cons.mpr ⟨pieceH c arg1 arg2 arg3 arg4 arg5 X_1 X_2 X_3 X_4 X_5 k 1 _ (k0_off2_inb k) (k0_off2_eq k) _ _ rfl,
    List.forall_mem_cons.mpr ⟨pieceH c arg1 arg2 arg3 arg4 arg5 X_1 X_2 X_3 X_4 X_5 k 0 _ (k0_off1_inb k) (k0_off1_eq k) _ _ rfl,
    List.forall_mem_nil _⟩⟩⟩⟩⟩⟩⟩⟩⟩⟩

theorem H10_cover (y : S256x2560.Idx) (h1 : 32 * k.val ≤ (y 0).val) (h2 : (y 0).val < 32 * (k.val + 1)) :
    ∃ p ∈ trip.sl.H10_10 (F := Ideal) c arg1 arg2 arg3 arg4 X_1 X_2 X_3 X_4 k, y ∈ p.1.set := by
  have hy : (y 1).val < 2560 := (y 1).isLt
  have hq : (y 1).val / 256 = 0 ∨ (y 1).val / 256 = 1 ∨ (y 1).val / 256 = 2 ∨ (y 1).val / 256 = 3 ∨ (y 1).val / 256 = 4
      ∨ (y 1).val / 256 = 5 ∨ (y 1).val / 256 = 6 ∨ (y 1).val / 256 = 7 ∨ (y 1).val / 256 = 8 ∨ (y 1).val / 256 = 9 := by omega
  rcases hq with h | h | h | h | h | h | h | h | h | h
  · exact ⟨_, .tail _ (.tail _ (.tail _ (.tail _ (.tail _ (.tail _ (.tail _ (.tail _ (.tail _ (.head _))))))))), mem_band k 0 _ (k0_off1_inb k) (k0_off1_eq k) y h1 h2 (by show 256 * 0 ≤ _; omega) (by show _ < 256 * (0 + 1); omega)⟩
  · exact ⟨_, .tail _ (.tail _ (.tail _ (.tail _ (.tail _ (.tail _ (.tail _ (.tail _ (.head _)))))))), mem_band k 1 _ (k0_off2_inb k) (k0_off2_eq k) y h1 h2 (by show 256 * 1 ≤ _; omega) (by show _ < 256 * (1 + 1); omega)⟩
  · exact ⟨_, .tail _ (.tail _ (.tail _ (.tail _ (.tail _ (.tail _ (.tail _ (.head _))))))), mem_band k 2 _ (k0_off3_inb k) (k0_off3_eq k) y h1 h2 (by show 256 * 2 ≤ _; omega) (by show _ < 256 * (2 + 1); omega)⟩
  · exact ⟨_, .tail _ (.tail _ (.tail _ (.tail _ (.tail _ (.tail _ (.head _)))))), mem_band k 3 _ (k0_off4_inb k) (k0_off4_eq k) y h1 h2 (by show 256 * 3 ≤ _; omega) (by show _ < 256 * (3 + 1); omega)⟩
  · exact ⟨_, .tail _ (.tail _ (.tail _ (.tail _ (.tail _ (.head _))))), mem_band k 4 _ (k0_off5_inb k) (k0_off5_eq k) y h1 h2 (by show 256 * 4 ≤ _; omega) (by show _ < 256 * (4 + 1); omega)⟩
  · exact ⟨_, .tail _ (.tail _ (.tail _ (.tail _ (.head _)))), mem_band k 5 _ (k0_off6_inb k) (k0_off6_eq k) y h1 h2 (by show 256 * 5 ≤ _; omega) (by show _ < 256 * (5 + 1); omega)⟩
  · exact ⟨_, .tail _ (.tail _ (.tail _ (.head _))), mem_band k 6 _ (k0_off7_inb k) (k0_off7_eq k) y h1 h2 (by show 256 * 6 ≤ _; omega) (by show _ < 256 * (6 + 1); omega)⟩
  · exact ⟨_, .tail _ (.tail _ (.head _)), mem_band k 7 _ (k0_off8_inb k) (k0_off8_eq k) y h1 h2 (by show 256 * 7 ≤ _; omega) (by show _ < 256 * (7 + 1); omega)⟩
  · exact ⟨_, .tail _ (.head _), mem_band k 8 _ (k0_off9_inb k) (k0_off9_eq k) y h1 h2 (by show 256 * 8 ≤ _; omega) (by show _ < 256 * (8 + 1); omega)⟩
  · exact ⟨_, .head _, mem_band k 9 _ (k0_off10_inb k) (k0_off10_eq k) y h1 h2 (by show 256 * 9 ≤ _; omega) (by show _ < 256 * (9 + 1); omega)⟩

theorem H10_miss (y : S256x2560.Idx) (h : (y 0).val < 32 * k.val) : ∀ p ∈ trip.sl.H10_10 (F := Ideal) c arg1 arg2 arg3 arg4 X_1 X_2 X_3 X_4 k, y ∉ p.1.set :=
    List.forall_mem_cons.mpr ⟨not_mem_band k 9 _ (k0_off10_inb k) (k0_off10_eq k) y h,
    List.forall_mem_cons.mpr ⟨not_mem_band k 8 _ (k0_off9_inb k) (k0_off9_eq k) y h,
    List.forall_mem_cons.mpr ⟨not_mem_band k 7 _ (k0_off8_inb k) (k0_off8_eq k) y h,
    List.forall_mem_cons.mpr ⟨not_mem_band k 6 _ (k0_off7_inb k) (k0_off7_eq k) y h,
    List.forall_mem_cons.mpr ⟨not_mem_band k 5 _ (k0_off6_inb k) (k0_off6_eq k) y h,
    List.forall_mem_cons.mpr ⟨not_mem_band k 4 _ (k0_off5_inb k) (k0_off5_eq k) y h,
    List.forall_mem_cons.mpr ⟨not_mem_band k 3 _ (k0_off4_inb k) (k0_off4_eq k) y h,
    List.forall_mem_cons.mpr ⟨not_mem_band k 2 _ (k0_off3_inb k) (k0_off3_eq k) y h,
    List.forall_mem_cons.mpr ⟨not_mem_band k 1 _ (k0_off2_inb k) (k0_off2_eq k) y h,
    List.forall_mem_cons.mpr ⟨not_mem_band k 0 _ (k0_off1_inb k) (k0_off1_eq k) y h,
    List.forall_mem_nil _⟩⟩⟩⟩⟩⟩⟩⟩⟩⟩

/-- A chunk of the residual sum read back. -/
theorem cov10 (q : Fin 10) (off : Fin 2 → ℕ) (inb : ∀ a, off a + S32x256.size a ≤ S256x2560.size a)
    (hoff : off = ![32 * k.val, 256 * q.val]) (r : Fin 32) (l : Fin 256) :
    arg10.view.readCov (trip.sl.H10_10 (F := Ideal) c arg1 arg2 arg3 arg4 X_1 X_2 X_3 X_4 k) (Rect.unit (s := S256x2560) off S32x256.size inb).toLoadRect (ix2 r l)
      = ((rowOf (arg1.view.read (Elt Ideal) X_1) (arg2.view.read (Elt Ideal) X_2) (arg3.view.read (Elt Ideal) X_3) (arg4.view.read (Elt Ideal) X_4) (arg5.view.read (Elt Ideal) X_5)) (bandRow k r)).h (chunkCol q l) := by
  unfold View.readCov View.readAt
  rw [idxBand k q off inb hoff]
  exact View.read_writes_apply_of_pieces _ _ (G10 c arg1 arg2 arg3 arg4 arg5 X_1 X_2 X_3 X_4 X_5) _ (H10_pieces c arg1 arg2 arg3 arg4 arg5 X_1 X_2 X_3 X_4 X_5 k) _
    (H10_cover c arg1 arg2 arg3 arg4 X_1 X_2 X_3 X_4 k (ix2 (bandRow k r) (chunkCol q l)) (by show 32 * k.val ≤ 32 * k.val + r.val; omega) (by show 32 * k.val + r.val < _; omega))

/-- The lanes' sums of squares from the ten chunks. -/
def ssAll (h0 h1 h2 h3 h4 h5 h6 h7 h8 h9 : FVec Ideal S32x256 .bf16) : FVec Ideal S32x128 .f32 :=
  ssP (ssP (ssP (ssP (ssP (ssP (ssP (ssP (ssP (ssP (broadcast S32x128 (Scalar.ofBits (F := Ideal) .f32 0x00000000#32)) h0) h1) h2) h3) h4) h5) h6) h7) h8) h9

/-- The lanes' largest magnitudes from the ten chunks. -/
def amAll (h0 h1 h2 h3 h4 h5 h6 h7 h8 h9 : FVec Ideal S32x256 .f32) : FVec Ideal S32x128 .f32 :=
  amP (amP (amP (amP (amP (amP (amP (amP (amP (amP (k0_pay53 (F := Ideal)) h0) h1) h2) h3) h4) h5) h6) h7) h8) h9

set_option maxHeartbeats 4000000 in
theorem r_28_eq : trip.sl.r_28 (F := Ideal) c arg1 arg2 arg3 arg4 X_1 X_2 X_3 X_4 k
    = ssAll (hP (View.readAt (Elt Ideal) arg4.view (Rect.unit (s := S256x2560) (k0_off1 k) S32x256.size (k0_off1_inb k)).toLoadRect X_4) (View.readAt (Elt Ideal) arg2.view (Rect.unit (s := S256x2560) (k0_off1 k) S32x256.size (k0_off1_inb k)).toLoadRect X_2) (View.readAt (Elt Ideal) arg3.view (Rect.unit (s := S1x2560) ![0, 0] S1x256.size inb_S1x2560_S1x256_0_0).toLoadRect X_3) (View.readAt (Elt Ideal) arg1.view (Rect.unit (s := S256x2560) (k0_off1 k) S32x256.size (k0_off1_inb k)).toLoadRect X_1))
      (hP (View.readAt (Elt Ideal) arg4.view (Rect.unit (s := S256x2560) (k0_off2 k) S32x256.size (k0_off2_inb k)).toLoadRect X_4) (View.readAt (Elt Ideal) arg2.view (Rect.unit (s := S256x2560) (k0_off2 k) S32x256.size (k0_off2_inb k)).toLoadRect X_2) (View.readAt (Elt Ideal) arg3.view (Rect.unit (s := S1x2560) ![0, 256] S1x256.size inb_S1x2560_S1x256_0_256).toLoadRect X_3) (View.readAt (Elt Ideal) arg1.view (Rect.unit (s := S256x2560) (k0_off2 k) S32x256.size (k0_off2_inb k)).toLoadRect X_1))
      (hP (View.readAt (Elt Ideal) arg4.view (Rect.unit (s := S256x2560) (k0_off3 k) S32x256.size (k0_off3_inb k)).toLoadRect X_4) (View.readAt (Elt Ideal) arg2.view (Rect.unit (s := S256x2560) (k0_off3 k) S32x256.size (k0_off3_inb k)).toLoadRect X_2) (View.readAt (Elt Ideal) arg3.view (Rect.unit (s := S1x2560) ![0, 512] S1x256.size inb_S1x2560_S1x256_0_512).toLoadRect X_3) (View.readAt (Elt Ideal) arg1.view (Rect.unit (s := S256x2560) (k0_off3 k) S32x256.size (k0_off3_inb k)).toLoadRect X_1))
      (hP (View.readAt (Elt Ideal) arg4.view (Rect.unit (s := S256x2560) (k0_off4 k) S32x256.size (k0_off4_inb k)).toLoadRect X_4) (View.readAt (Elt Ideal) arg2.view (Rect.unit (s := S256x2560) (k0_off4 k) S32x256.size (k0_off4_inb k)).toLoadRect X_2) (View.readAt (Elt Ideal) arg3.view (Rect.unit (s := S1x2560) ![0, 768] S1x256.size inb_S1x2560_S1x256_0_768).toLoadRect X_3) (View.readAt (Elt Ideal) arg1.view (Rect.unit (s := S256x2560) (k0_off4 k) S32x256.size (k0_off4_inb k)).toLoadRect X_1))
      (hP (View.readAt (Elt Ideal) arg4.view (Rect.unit (s := S256x2560) (k0_off5 k) S32x256.size (k0_off5_inb k)).toLoadRect X_4) (View.readAt (Elt Ideal) arg2.view (Rect.unit (s := S256x2560) (k0_off5 k) S32x256.size (k0_off5_inb k)).toLoadRect X_2) (View.readAt (Elt Ideal) arg3.view (Rect.unit (s := S1x2560) ![0, 1024] S1x256.size inb_S1x2560_S1x256_0_1024).toLoadRect X_3) (View.readAt (Elt Ideal) arg1.view (Rect.unit (s := S256x2560) (k0_off5 k) S32x256.size (k0_off5_inb k)).toLoadRect X_1))
      (hP (View.readAt (Elt Ideal) arg4.view (Rect.unit (s := S256x2560) (k0_off6 k) S32x256.size (k0_off6_inb k)).toLoadRect X_4) (View.readAt (Elt Ideal) arg2.view (Rect.unit (s := S256x2560) (k0_off6 k) S32x256.size (k0_off6_inb k)).toLoadRect X_2) (View.readAt (Elt Ideal) arg3.view (Rect.unit (s := S1x2560) ![0, 1280] S1x256.size inb_S1x2560_S1x256_0_1280).toLoadRect X_3) (View.readAt (Elt Ideal) arg1.view (Rect.unit (s := S256x2560) (k0_off6 k) S32x256.size (k0_off6_inb k)).toLoadRect X_1))
      (hP (View.readAt (Elt Ideal) arg4.view (Rect.unit (s := S256x2560) (k0_off7 k) S32x256.size (k0_off7_inb k)).toLoadRect X_4) (View.readAt (Elt Ideal) arg2.view (Rect.unit (s := S256x2560) (k0_off7 k) S32x256.size (k0_off7_inb k)).toLoadRect X_2) (View.readAt (Elt Ideal) arg3.view (Rect.unit (s := S1x2560) ![0, 1536] S1x256.size inb_S1x2560_S1x256_0_1536).toLoadRect X_3) (View.readAt (Elt Ideal) arg1.view (Rect.unit (s := S256x2560) (k0_off7 k) S32x256.size (k0_off7_inb k)).toLoadRect X_1))
      (hP (View.readAt (Elt Ideal) arg4.view (Rect.unit (s := S256x2560) (k0_off8 k) S32x256.size (k0_off8_inb k)).toLoadRect X_4) (View.readAt (Elt Ideal) arg2.view (Rect.unit (s := S256x2560) (k0_off8 k) S32x256.size (k0_off8_inb k)).toLoadRect X_2) (View.readAt (Elt Ideal) arg3.view (Rect.unit (s := S1x2560) ![0, 1792] S1x256.size inb_S1x2560_S1x256_0_1792).toLoadRect X_3) (View.readAt (Elt Ideal) arg1.view (Rect.unit (s := S256x2560) (k0_off8 k) S32x256.size (k0_off8_inb k)).toLoadRect X_1))
      (hP (View.readAt (Elt Ideal) arg4.view (Rect.unit (s := S256x2560) (k0_off9 k) S32x256.size (k0_off9_inb k)).toLoadRect X_4) (View.readAt (Elt Ideal) arg2.view (Rect.unit (s := S256x2560) (k0_off9 k) S32x256.size (k0_off9_inb k)).toLoadRect X_2) (View.readAt (Elt Ideal) arg3.view (Rect.unit (s := S1x2560) ![0, 2048] S1x256.size inb_S1x2560_S1x256_0_2048).toLoadRect X_3) (View.readAt (Elt Ideal) arg1.view (Rect.unit (s := S256x2560) (k0_off9 k) S32x256.size (k0_off9_inb k)).toLoadRect X_1))
      (hP (View.readAt (Elt Ideal) arg4.view (Rect.unit (s := S256x2560) (k0_off10 k) S32x256.size (k0_off10_inb k)).toLoadRect X_4) (View.readAt (Elt Ideal) arg2.view (Rect.unit (s := S256x2560) (k0_off10 k) S32x256.size (k0_off10_inb k)).toLoadRect X_2) (View.readAt (Elt Ideal) arg3.view (Rect.unit (s := S1x2560) ![0, 2304] S1x256.size inb_S1x2560_S1x256_0_2304).toLoadRect X_3) (View.readAt (Elt Ideal) arg1.view (Rect.unit (s := S256x2560) (k0_off10 k) S32x256.size (k0_off10_inb k)).toLoadRect X_1)) := rfl

set_option maxHeartbeats 4000000 in
theorem r_39_eq : trip.sl.r_39 (F := Ideal) c arg1 arg2 arg3 arg4 arg5 arg10 X_1 X_2 X_3 X_4 X_5 k
    = amR (amAll (yP (trip.sl.r_31 (F := Ideal) c arg1 arg2 arg3 arg4 X_1 X_2 X_3 X_4 k) (arg10.view.readCov (trip.sl.H10_10 (F := Ideal) c arg1 arg2 arg3 arg4 X_1 X_2 X_3 X_4 k) (Rect.unit (s := S256x2560) (k0_off1 k) S32x256.size (k0_off1_inb k)).toLoadRect) (View.readAt (Elt Ideal) arg5.view (Rect.unit (s := S1x2560) ![0, 0] S1x256.size inb_S1x2560_S1x256_0_0).toLoadRect X_5))
      (yP (trip.sl.r_31 (F := Ideal) c arg1 arg2 arg3 arg4 X_1 X_2 X_3 X_4 k) (arg10.view.readCov (trip.sl.H10_10 (F := Ideal) c arg1 arg2 arg3 arg4 X_1 X_2 X_3 X_4 k) (Rect.unit (s := S256x2560) (k0_off2 k) S32x256.size (k0_off2_inb k)).toLoadRect) (View.readAt (Elt Ideal) arg5.view (Rect.unit (s := S1x2560) ![0, 256] S1x256.size inb_S1x2560_S1x256_0_256).toLoadRect X_5))
      (yP (trip.sl.r_31 (F := Ideal) c arg1 arg2 arg3 arg4 X_1 X_2 X_3 X_4 k) (arg10.view.readCov (trip.sl.H10_10 (F := Ideal) c arg1 arg2 arg3 arg4 X_1 X_2 X_3 X_4 k) (Rect.unit (s := S256x2560) (k0_off3 k) S32x256.size (k0_off3_inb k)).toLoadRect) (View.readAt (Elt Ideal) arg5.view (Rect.unit (s := S1x2560) ![0, 512] S1x256.size inb_S1x2560_S1x256_0_512).toLoadRect X_5))
      (yP (trip.sl.r_31 (F := Ideal) c arg1 arg2 arg3 arg4 X_1 X_2 X_3 X_4 k) (arg10.view.readCov (trip.sl.H10_10 (F := Ideal) c arg1 arg2 arg3 arg4 X_1 X_2 X_3 X_4 k) (Rect.unit (s := S256x2560) (k0_off4 k) S32x256.size (k0_off4_inb k)).toLoadRect) (View.readAt (Elt Ideal) arg5.view (Rect.unit (s := S1x2560) ![0, 768] S1x256.size inb_S1x2560_S1x256_0_768).toLoadRect X_5))
      (yP (trip.sl.r_31 (F := Ideal) c arg1 arg2 arg3 arg4 X_1 X_2 X_3 X_4 k) (arg10.view.readCov (trip.sl.H10_10 (F := Ideal) c arg1 arg2 arg3 arg4 X_1 X_2 X_3 X_4 k) (Rect.unit (s := S256x2560) (k0_off5 k) S32x256.size (k0_off5_inb k)).toLoadRect) (View.readAt (Elt Ideal) arg5.view (Rect.unit (s := S1x2560) ![0, 1024] S1x256.size inb_S1x2560_S1x256_0_1024).toLoadRect X_5))
      (yP (trip.sl.r_31 (F := Ideal) c arg1 arg2 arg3 arg4 X_1 X_2 X_3 X_4 k) (arg10.view.readCov (trip.sl.H10_10 (F := Ideal) c arg1 arg2 arg3 arg4 X_1 X_2 X_3 X_4 k) (Rect.unit (s := S256x2560) (k0_off6 k) S32x256.size (k0_off6_inb k)).toLoadRect) (View.readAt (Elt Ideal) arg5.view (Rect.unit (s := S1x2560) ![0, 1280] S1x256.size inb_S1x2560_S1x256_0_1280).toLoadRect X_5))
      (yP (trip.sl.r_31 (F := Ideal) c arg1 arg2 arg3 arg4 X_1 X_2 X_3 X_4 k) (arg10.view.readCov (trip.sl.H10_10 (F := Ideal) c arg1 arg2 arg3 arg4 X_1 X_2 X_3 X_4 k) (Rect.unit (s := S256x2560) (k0_off7 k) S32x256.size (k0_off7_inb k)).toLoadRect) (View.readAt (Elt Ideal) arg5.view (Rect.unit (s := S1x2560) ![0, 1536] S1x256.size inb_S1x2560_S1x256_0_1536).toLoadRect X_5))
      (yP (trip.sl.r_31 (F := Ideal) c arg1 arg2 arg3 arg4 X_1 X_2 X_3 X_4 k) (arg10.view.readCov (trip.sl.H10_10 (F := Ideal) c arg1 arg2 arg3 arg4 X_1 X_2 X_3 X_4 k) (Rect.unit (s := S256x2560) (k0_off8 k) S32x256.size (k0_off8_inb k)).toLoadRect) (View.readAt (Elt Ideal) arg5.view (Rect.unit (s := S1x2560) ![0, 1792] S1x256.size inb_S1x2560_S1x256_0_1792).toLoadRect X_5))
      (yP (trip.sl.r_31 (F := Ideal) c arg1 arg2 arg3 arg4 X_1 X_2 X_3 X_4 k) (arg10.view.readCov (trip.sl.H10_10 (F := Ideal) c arg1 arg2 arg3 arg4 X_1 X_2 X_3 X_4 k) (Rect.unit (s := S256x2560) (k0_off9 k) S32x256.size (k0_off9_inb k)).toLoadRect) (View.readAt (Elt Ideal) arg5.view (Rect.unit (s := S1x2560) ![0, 2048] S1x256.size inb_S1x2560_S1x256_0_2048).toLoadRect X_5))
      (yP (trip.sl.r_31 (F := Ideal) c arg1 arg2 arg3 arg4 X_1 X_2 X_3 X_4 k) (arg10.view.readCov (trip.sl.H10_10 (F := Ideal) c arg1 arg2 arg3 arg4 X_1 X_2 X_3 X_4 k) (Rect.unit (s := S256x2560) (k0_off10 k) S32x256.size (k0_off10_inb k)).toLoadRect) (View.readAt (Elt Ideal) arg5.view (Rect.unit (s := S1x2560) ![0, 2304] S1x256.size inb_S1x2560_S1x256_0_2304).toLoadRect X_5))) := rfl

theorem ssAll_at (R : RowIn) (r : Fin 32) (h0 h1 h2 h3 h4 h5 h6 h7 h8 h9 : FVec Ideal S32x256 .bf16)
    (e0 : ∀ l, h0 (ix2 r l) = R.h (chunkCol 0 l)) (e1 : ∀ l, h1 (ix2 r l) = R.h (chunkCol 1 l)) (e2 : ∀ l, h2 (ix2 r l) = R.h (chunkCol 2 l)) (e3 : ∀ l, h3 (ix2 r l) = R.h (chunkCol 3 l)) (e4 : ∀ l, h4 (ix2 r l) = R.h (chunkCol 4 l)) (e5 : ∀ l, h5 (ix2 r l) = R.h (chunkCol 5 l)) (e6 : ∀ l, h6 (ix2 r l) = R.h (chunkCol 6 l)) (e7 : ∀ l, h7 (ix2 r l) = R.h (chunkCol 7 l)) (e8 : ∀ l, h8 (ix2 r l) = R.h (chunkCol 8 l)) (e9 : ∀ l, h9 (ix2 r l) = R.h (chunkCol 9 l)) (l : Fin 128) :
    ssAll h0 h1 h2 h3 h4 h5 h6 h7 h8 h9 (ix2 r l) = laneSum (fun j => R.h j * R.h j) l := by
  unfold ssAll
  simp only [ssP_at, e0, e1, e2, e3, e4, e5, e6, e7, e8, e9]
  unfold laneSum
  have e0 : broadcast S32x128 (Scalar.ofBits (F := Ideal) .f32 0x00000000#32) (ix2 r l) = 0 := by pointwise
  rw [e0]
  rfl

theorem amAll_at (R : RowIn) (r : Fin 32) (h0 h1 h2 h3 h4 h5 h6 h7 h8 h9 : FVec Ideal S32x256 .f32)
    (e0 : ∀ l, h0 (ix2 r l) = R.y (chunkCol 0 l)) (e1 : ∀ l, h1 (ix2 r l) = R.y (chunkCol 1 l)) (e2 : ∀ l, h2 (ix2 r l) = R.y (chunkCol 2 l)) (e3 : ∀ l, h3 (ix2 r l) = R.y (chunkCol 3 l)) (e4 : ∀ l, h4 (ix2 r l) = R.y (chunkCol 4 l)) (e5 : ∀ l, h5 (ix2 r l) = R.y (chunkCol 5 l)) (e6 : ∀ l, h6 (ix2 r l) = R.y (chunkCol 6 l)) (e7 : ∀ l, h7 (ix2 r l) = R.y (chunkCol 7 l)) (e8 : ∀ l, h8 (ix2 r l) = R.y (chunkCol 8 l)) (e9 : ∀ l, h9 (ix2 r l) = R.y (chunkCol 9 l)) (l : Fin 128) :
    amAll h0 h1 h2 h3 h4 h5 h6 h7 h8 h9 (ix2 r l) = laneMax (fun j => max (R.y j) (-R.y j)) l := by
  unfold amAll
  simp only [amP_at, e0, e1, e2, e3, e4, e5, e6, e7, e8, e9, pay53_at]
  rfl

/-- The band's reciprocal root mean squares. -/
theorem r_31_at (r : Fin 32) (z : Fin 1) : trip.sl.r_31 (F := Ideal) c arg1 arg2 arg3 arg4 X_1 X_2 X_3 X_4 k (ix2 r z) = ((rowOf (arg1.view.read (Elt Ideal) X_1) (arg2.view.read (Elt Ideal) X_2) (arg3.view.read (Elt Ideal) X_3) (arg4.view.read (Elt Ideal) X_4) (arg5.view.read (Elt Ideal) X_5)) (bandRow k r)).rs := by
  show k0_pay51 (trip.sl.r_28 (F := Ideal) c arg1 arg2 arg3 arg4 X_1 X_2 X_3 X_4 k) (ix2 r z) = _
  rw [rs_at]
  unfold RowIn.rs RowIn.ss
  rw [sum_lanes]
  refine congrArg (fun s => Ideal.rsqrt (Ideal.div s _ + _)) (Finset.sum_congr rfl fun l _ => ?_)
  rw [r_28_eq]
  exact ssAll_at ((rowOf (arg1.view.read (Elt Ideal) X_1) (arg2.view.read (Elt Ideal) X_2) (arg3.view.read (Elt Ideal) X_3) (arg4.view.read (Elt Ideal) X_4) (arg5.view.read (Elt Ideal) X_5)) (bandRow k r)) r _ _ _ _ _ _ _ _ _ _
    (fun l => hP_rd c arg1 arg2 arg3 arg4 arg5 X_1 X_2 X_3 X_4 X_5 k 0 _ (k0_off1_inb k) (k0_off1_eq k) _ inb_S1x2560_S1x256_0_0 rfl r l)
    (fun l => hP_rd c arg1 arg2 arg3 arg4 arg5 X_1 X_2 X_3 X_4 X_5 k 1 _ (k0_off2_inb k) (k0_off2_eq k) _ inb_S1x2560_S1x256_0_256 rfl r l)
    (fun l => hP_rd c arg1 arg2 arg3 arg4 arg5 X_1 X_2 X_3 X_4 X_5 k 2 _ (k0_off3_inb k) (k0_off3_eq k) _ inb_S1x2560_S1x256_0_512 rfl r l)
    (fun l => hP_rd c arg1 arg2 arg3 arg4 arg5 X_1 X_2 X_3 X_4 X_5 k 3 _ (k0_off4_inb k) (k0_off4_eq k) _ inb_S1x2560_S1x256_0_768 rfl r l)
    (fun l => hP_rd c arg1 arg2 arg3 arg4 arg5 X_1 X_2 X_3 X_4 X_5 k 4 _ (k0_off5_inb k) (k0_off5_eq k) _ inb_S1x2560_S1x256_0_1024 rfl r l)
    (fun l => hP_rd c arg1 arg2 arg3 arg4 arg5 X_1 X_2 X_3 X_4 X_5 k 5 _ (k0_off6_inb k) (k0_off6_eq k) _ inb_S1x2560_S1x256_0_1280 rfl r l)
    (fun l => hP_rd c arg1 arg2 arg3 arg4 arg5 X_1 X_2 X_3 X_4 X_5 k 6 _ (k0_off7_inb k) (k0_off7_eq k) _ inb_S1x2560_S1x256_0_1536 rfl r l)
    (fun l => hP_rd c arg1 arg2 arg3 arg4 arg5 X_1 X_2 X_3 X_4 X_5 k 7 _ (k0_off8_inb k) (k0_off8_eq k) _ inb_S1x2560_S1x256_0_1792 rfl r l)
    (fun l => hP_rd c arg1 arg2 arg3 arg4 arg5 X_1 X_2 X_3 X_4 X_5 k 8 _ (k0_off9_inb k) (k0_off9_eq k) _ inb_S1x2560_S1x256_0_2048 rfl r l)
    (fun l => hP_rd c arg1 arg2 arg3 arg4 arg5 X_1 X_2 X_3 X_4 X_5 k 9 _ (k0_off10_inb k) (k0_off10_eq k) _ inb_S1x2560_S1x256_0_2304 rfl r l) l

/-- A normalized chunk, read at a place. -/
theorem yP_rd (q : Fin 10) (off : Fin 2 → ℕ) (inb : ∀ a, off a + S32x256.size a ≤ S256x2560.size a)
    (hoff : off = ![32 * k.val, 256 * q.val]) (off3 : Fin 2 → ℕ) (inb3 : ∀ a, off3 a + S1x256.size a ≤ S1x2560.size a)
    (hoff3 : off3 = ![0, 256 * q.val]) (r : Fin 32) (l : Fin 256) :
    yP (trip.sl.r_31 (F := Ideal) c arg1 arg2 arg3 arg4 X_1 X_2 X_3 X_4 k) (arg10.view.readCov (trip.sl.H10_10 (F := Ideal) c arg1 arg2 arg3 arg4 X_1 X_2 X_3 X_4 k) (Rect.unit (s := S256x2560) off S32x256.size inb).toLoadRect)
      (View.readAt (Elt Ideal) arg5.view (Rect.unit (s := S1x2560) off3 S1x256.size inb3).toLoadRect X_5) (ix2 r l)
      = ((rowOf (arg1.view.read (Elt Ideal) X_1) (arg2.view.read (Elt Ideal) X_2) (arg3.view.read (Elt Ideal) X_3) (arg4.view.read (Elt Ideal) X_4) (arg5.view.read (Elt Ideal) X_5)) (bandRow k r)).y (chunkCol q l) := by
  rw [yP_at, r_31_at c arg1 arg2 arg3 arg4 arg5 X_1 X_2 X_3 X_4 X_5, cov10 c arg1 arg2 arg3 arg4 arg5 arg10 X_1 X_2 X_3 X_4 X_5 k q off inb hoff]
  unfold View.readAt
  rw [idxVec q off3 inb3 hoff3]
  rfl

/-- The band's largest magnitudes. -/
theorem r_39_at (r : Fin 32) (z : Fin 1) : trip.sl.r_39 (F := Ideal) c arg1 arg2 arg3 arg4 arg5 arg10 X_1 X_2 X_3 X_4 X_5 k (ix2 r z) = ((rowOf (arg1.view.read (Elt Ideal) X_1) (arg2.view.read (Elt Ideal) X_2) (arg3.view.read (Elt Ideal) X_3) (arg4.view.read (Elt Ideal) X_4) (arg5.view.read (Elt Ideal) X_5)) (bandRow k r)).am := by
  rw [r_39_eq, amR_at]
  unfold RowIn.am
  rw [max_lanes _ fun j => abs_nonneg' _]
  refine Finset.fold_congr fun l _ => amAll_at ((rowOf (arg1.view.read (Elt Ideal) X_1) (arg2.view.read (Elt Ideal) X_2) (arg3.view.read (Elt Ideal) X_3) (arg4.view.read (Elt Ideal) X_4) (arg5.view.read (Elt Ideal) X_5)) (bandRow k r)) r _ _ _ _ _ _ _ _ _ _
    (fun l => yP_rd c arg1 arg2 arg3 arg4 arg5 arg10 X_1 X_2 X_3 X_4 X_5 k 0 _ (k0_off1_inb k) (k0_off1_eq k) _ inb_S1x2560_S1x256_0_0 rfl r l)
    (fun l => yP_rd c arg1 arg2 arg3 arg4 arg5 arg10 X_1 X_2 X_3 X_4 X_5 k 1 _ (k0_off2_inb k) (k0_off2_eq k) _ inb_S1x2560_S1x256_0_256 rfl r l)
    (fun l => yP_rd c arg1 arg2 arg3 arg4 arg5 arg10 X_1 X_2 X_3 X_4 X_5 k 2 _ (k0_off3_inb k) (k0_off3_eq k) _ inb_S1x2560_S1x256_0_512 rfl r l)
    (fun l => yP_rd c arg1 arg2 arg3 arg4 arg5 arg10 X_1 X_2 X_3 X_4 X_5 k 3 _ (k0_off4_inb k) (k0_off4_eq k) _ inb_S1x2560_S1x256_0_768 rfl r l)
    (fun l => yP_rd c arg1 arg2 arg3 arg4 arg5 arg10 X_1 X_2 X_3 X_4 X_5 k 4 _ (k0_off5_inb k) (k0_off5_eq k) _ inb_S1x2560_S1x256_0_1024 rfl r l)
    (fun l => yP_rd c arg1 arg2 arg3 arg4 arg5 arg10 X_1 X_2 X_3 X_4 X_5 k 5 _ (k0_off6_inb k) (k0_off6_eq k) _ inb_S1x2560_S1x256_0_1280 rfl r l)
    (fun l => yP_rd c arg1 arg2 arg3 arg4 arg5 arg10 X_1 X_2 X_3 X_4 X_5 k 6 _ (k0_off7_inb k) (k0_off7_eq k) _ inb_S1x2560_S1x256_0_1536 rfl r l)
    (fun l => yP_rd c arg1 arg2 arg3 arg4 arg5 arg10 X_1 X_2 X_3 X_4 X_5 k 7 _ (k0_off8_inb k) (k0_off8_eq k) _ inb_S1x2560_S1x256_0_1792 rfl r l)
    (fun l => yP_rd c arg1 arg2 arg3 arg4 arg5 arg10 X_1 X_2 X_3 X_4 X_5 k 8 _ (k0_off9_inb k) (k0_off9_eq k) _ inb_S1x2560_S1x256_0_2048 rfl r l)
    (fun l => yP_rd c arg1 arg2 arg3 arg4 arg5 arg10 X_1 X_2 X_3 X_4 X_5 k 9 _ (k0_off10_inb k) (k0_off10_eq k) _ inb_S1x2560_S1x256_0_2304 rfl r l) l

theorem pieceY (q : Fin 10) (off : Fin 2 → ℕ) (inb : ∀ a, off a + S32x256.size a ≤ S256x2560.size a)
    (hoff : off = ![32 * k.val, 256 * q.val]) (off3 : Fin 2 → ℕ) (inb3 : ∀ a, off3 a + S1x256.size a ≤ S1x2560.size a)
    (hoff3 : off3 = ![0, 256 * q.val]) (off4 : Fin 2 → ℕ) (inb4 : ∀ a, off4 a + S32x256.size a ≤ S32x2560.size a)
    (hoff4 : off4 = ![0, 256 * q.val]) (x : S32x256.Idx) :
    shapeCast S32x256 (yP (trip.sl.r_31 (F := Ideal) c arg1 arg2 arg3 arg4 X_1 X_2 X_3 X_4 k) (arg10.view.readCov (trip.sl.H10_10 (F := Ideal) c arg1 arg2 arg3 arg4 X_1 X_2 X_3 X_4 k) (Rect.unit (s := S256x2560) off S32x256.size inb).toLoadRect)
      (View.readAt (Elt Ideal) arg5.view (Rect.unit (s := S1x2560) off3 S1x256.size inb3).toLoadRect X_5)) shapeCasts_S32x256_S32x256 x
      = G12 c arg1 arg2 arg3 arg4 arg5 X_1 X_2 X_3 X_4 X_5 k ((Rect.unit (s := S32x2560) off4 S32x256.size inb4).emb x) := by
  rw [sc_id]
  obtain ⟨r, l, rfl⟩ : ∃ (r : Fin 32) (l : Fin 256), x = ix2 r l := ⟨x 0, x 1, by funext a; fin_cases a <;> rfl⟩
  rw [yP_rd c arg1 arg2 arg3 arg4 arg5 arg10 X_1 X_2 X_3 X_4 X_5 k q off inb hoff off3 inb3 hoff3]
  show _ = G12 c arg1 arg2 arg3 arg4 arg5 X_1 X_2 X_3 X_4 X_5 k ((Rect.unit (s := S32x2560) off4 S32x256.size inb4).toLoadRect.idx (ix2 r l))
  rw [idxY q off4 inb4 hoff4]
  rfl

set_option maxHeartbeats 4000000 in
theorem H12_pieces : ∀ p ∈ trip.sl.H12_10 (F := Ideal) c arg1 arg2 arg3 arg4 arg5 arg10 X_1 X_2 X_3 X_4 X_5 k, ∀ x : p.1.shape.Idx, p.2 x = G12 c arg1 arg2 arg3 arg4 arg5 X_1 X_2 X_3 X_4 X_5 k (p.1.emb x) :=
    List.forall_mem_cons.mpr ⟨pieceY c arg1 arg2 arg3 arg4 arg5 arg10 X_1 X_2 X_3 X_4 X_5 k 9 _ (k0_off10_inb k) (k0_off10_eq k) _ inb_S1x2560_S1x256_0_2304 rfl _ inb_S32x2560_S32x256_0_2304 rfl,
    List.forall_mem_cons.mpr ⟨pieceY c arg1 arg2 arg3 arg4 arg5 arg10 X_1 X_2 X_3 X_4 X_5 k 8 _ (k0_off9_inb k) (k0_off9_eq k) _ inb_S1x2560_S1x256_0_2048 rfl _ inb_S32x2560_S32x256_0_2048 rfl,
    List.forall_mem_cons.mpr ⟨pieceY c arg1 arg2 arg3 arg4 arg5 arg10 X_1 X_2 X_3 X_4 X_5 k 7 _ (k0_off8_inb k) (k0_off8_eq k) _ inb_S1x2560_S1x256_0_1792 rfl _ inb_S32x2560_S32x256_0_1792 rfl,
    List.forall_mem_cons.mpr ⟨pieceY c arg1 arg2 arg3 arg4 arg5 arg10 X_1 X_2 X_3 X_4 X_5 k 6 _ (k0_off7_inb k) (k0_off7_eq k) _ inb_S1x2560_S1x256_0_1536 rfl _ inb_S32x2560_S32x256_0_1536 rfl,
    List.forall_mem_cons.mpr ⟨pieceY c arg1 arg2 arg3 arg4 arg5 arg10 X_1 X_2 X_3 X_4 X_5 k 5 _ (k0_off6_inb k) (k0_off6_eq k) _ inb_S1x2560_S1x256_0_1280 rfl _ inb_S32x2560_S32x256_0_1280 rfl,
    List.forall_mem_cons.mpr ⟨pieceY c arg1 arg2 arg3 arg4 arg5 arg10 X_1 X_2 X_3 X_4 X_5 k 4 _ (k0_off5_inb k) (k0_off5_eq k) _ inb_S1x2560_S1x256_0_1024 rfl _ inb_S32x2560_S32x256_0_1024 rfl,
    List.forall_mem_cons.mpr ⟨pieceY c arg1 arg2 arg3 arg4 arg5 arg10 X_1 X_2 X_3 X_4 X_5 k 3 _ (k0_off4_inb k) (k0_off4_eq k) _ inb_S1x2560_S1x256_0_768 rfl _ inb_S32x2560_S32x256_0_768 rfl,
    List.forall_mem_cons.mpr ⟨pieceY c arg1 arg2 arg3 arg4 arg5 arg10 X_1 X_2 X_3 X_4 X_5 k 2 _ (k0_off3_inb k) (k0_off3_eq k) _ inb_S1x2560_S1x256_0_512 rfl _ inb_S32x2560_S32x256_0_512 rfl,
    List.forall_mem_cons.mpr ⟨pieceY c arg1 arg2 arg3 arg4 arg5 arg10 X_1 X_2 X_3 X_4 X_5 k 1 _ (k0_off2_inb k) (k0_off2_eq k) _ inb_S1x2560_S1x256_0_256 rfl _ inb_S32x2560_S32x256_0_256 rfl,
    List.forall_mem_cons.mpr ⟨pieceY c arg1 arg2 arg3 arg4 arg5 arg10 X_1 X_2 X_3 X_4 X_5 k 0 _ (k0_off1_inb k) (k0_off1_eq k) _ inb_S1x2560_S1x256_0_0 rfl _ inb_S32x2560_S32x256_0_0 rfl,
    List.forall_mem_nil _⟩⟩⟩⟩⟩⟩⟩⟩⟩⟩

theorem H12_cover (y : S32x2560.Idx) : ∃ p ∈ trip.sl.H12_10 (F := Ideal) c arg1 arg2 arg3 arg4 arg5 arg10 X_1 X_2 X_3 X_4 X_5 k, y ∈ p.1.set := by
  have hy : (y 1).val < 2560 := (y 1).isLt
  have hq : (y 1).val / 256 = 0 ∨ (y 1).val / 256 = 1 ∨ (y 1).val / 256 = 2 ∨ (y 1).val / 256 = 3 ∨ (y 1).val / 256 = 4
      ∨ (y 1).val / 256 = 5 ∨ (y 1).val / 256 = 6 ∨ (y 1).val / 256 = 7 ∨ (y 1).val / 256 = 8 ∨ (y 1).val / 256 = 9 := by omega
  rcases hq with h | h | h | h | h | h | h | h | h | h
  · exact ⟨_, .tail _ (.tail _ (.tail _ (.tail _ (.tail _ (.tail _ (.tail _ (.tail _ (.tail _ (.head _))))))))), mem_y 0 _ inb_S32x2560_S32x256_0_0 rfl y (by show 256 * 0 ≤ _; omega) (by show _ < 256 * (0 + 1); omega)⟩
  · exact ⟨_, .tail _ (.tail _ (.tail _ (.tail _ (.tail _ (.tail _ (.tail _ (.tail _ (.head _)))))))), mem_y 1 _ inb_S32x2560_S32x256_0_256 rfl y (by show 256 * 1 ≤ _; omega) (by show _ < 256 * (1 + 1); omega)⟩
  · exact ⟨_, .tail _ (.tail _ (.tail _ (.tail _ (.tail _ (.tail _ (.tail _ (.head _))))))), mem_y 2 _ inb_S32x2560_S32x256_0_512 rfl y (by show 256 * 2 ≤ _; omega) (by show _ < 256 * (2 + 1); omega)⟩
  · exact ⟨_, .tail _ (.tail _ (.tail _ (.tail _ (.tail _ (.tail _ (.head _)))))), mem_y 3 _ inb_S32x2560_S32x256_0_768 rfl y (by show 256 * 3 ≤ _; omega) (by show _ < 256 * (3 + 1); omega)⟩
  · exact ⟨_, .tail _ (.tail _ (.tail _ (.tail _ (.tail _ (.head _))))), mem_y 4 _ inb_S32x2560_S32x256_0_1024 rfl y (by show 256 * 4 ≤ _; omega) (by show _ < 256 * (4 + 1); omega)⟩
  · exact ⟨_, .tail _ (.tail _ (.tail _ (.tail _ (.head _)))), mem_y 5 _ inb_S32x2560_S32x256_0_1280 rfl y (by show 256 * 5 ≤ _; omega) (by show _ < 256 * (5 + 1); omega)⟩
  · exact ⟨_, .tail _ (.tail _ (.tail _ (.head _))), mem_y 6 _ inb_S32x2560_S32x256_0_1536 rfl y (by show 256 * 6 ≤ _; omega) (by show _ < 256 * (6 + 1); omega)⟩
  · exact ⟨_, .tail _ (.tail _ (.head _)), mem_y 7 _ inb_S32x2560_S32x256_0_1792 rfl y (by show 256 * 7 ≤ _; omega) (by show _ < 256 * (7 + 1); omega)⟩
  · exact ⟨_, .tail _ (.head _), mem_y 8 _ inb_S32x2560_S32x256_0_2048 rfl y (by show 256 * 8 ≤ _; omega) (by show _ < 256 * (8 + 1); omega)⟩
  · exact ⟨_, .head _, mem_y 9 _ inb_S32x2560_S32x256_0_2304 rfl y (by show 256 * 9 ≤ _; omega) (by show _ < 256 * (9 + 1); omega)⟩

/-- A normalized chunk read back. -/
theorem cov12 (q : Fin 10) (off : Fin 2 → ℕ) (inb : ∀ a, off a + S32x256.size a ≤ S32x2560.size a)
    (hoff : off = ![0, 256 * q.val]) (r : Fin 32) (l : Fin 256) :
    arg12.view.readCov (trip.sl.H12_10 (F := Ideal) c arg1 arg2 arg3 arg4 arg5 arg10 X_1 X_2 X_3 X_4 X_5 k) (Rect.unit (s := S32x2560) off S32x256.size inb).toLoadRect (ix2 r l)
      = ((rowOf (arg1.view.read (Elt Ideal) X_1) (arg2.view.read (Elt Ideal) X_2) (arg3.view.read (Elt Ideal) X_3) (arg4.view.read (Elt Ideal) X_4) (arg5.view.read (Elt Ideal) X_5)) (bandRow k r)).y (chunkCol q l) := by
  unfold View.readCov View.readAt
  rw [idxY q off inb hoff]
  exact View.read_writes_apply_of_pieces _ _ (G12 c arg1 arg2 arg3 arg4 arg5 X_1 X_2 X_3 X_4 X_5 k) _ (H12_pieces c arg1 arg2 arg3 arg4 arg5 arg10 X_1 X_2 X_3 X_4 X_5 k) _ (H12_cover c arg1 arg2 arg3 arg4 arg5 arg10 X_1 X_2 X_3 X_4 X_5 k _)

/-- The band's exponents. -/
theorem r_43_at (r : Fin 32) (z : Fin 1) :
    trip.sl.r_43 (F := Ideal) c arg1 arg2 arg3 arg4 arg5 arg10 X_1 X_2 X_3 X_4 X_5 k (ix2 r z) = eWord ((rowOf (arg1.view.read (Elt Ideal) X_1) (arg2.view.read (Elt Ideal) X_2) (arg3.view.read (Elt Ideal) X_3) (arg4.view.read (Elt Ideal) X_4) (arg5.view.read (Elt Ideal) X_5)) (bandRow k r)).am ((rowOf (arg1.view.read (Elt Ideal) X_1) (arg2.view.read (Elt Ideal) X_2) (arg3.view.read (Elt Ideal) X_3) (arg4.view.read (Elt Ideal) X_4) (arg5.view.read (Elt Ideal) X_5)) (bandRow k r)).v := by
  show exP (trip.sl.r_39 (F := Ideal) c arg1 arg2 arg3 arg4 arg5 arg10 X_1 X_2 X_3 X_4 X_5 k) (trip.sl.cst_206 (F := Ideal)) (ix2 r z) = _
  rw [exP_at, r_39_at c arg1 arg2 arg3 arg4 arg5 arg10 X_1 X_2 X_3 X_4 X_5 k]
  rfl

/-- What the codes' window holds of the block. -/
def G6 (y : S256x2560.Idx) : EReal := ((rowOf (arg1.view.read (Elt Ideal) X_1) (arg2.view.read (Elt Ideal) X_2) (arg3.view.read (Elt Ideal) X_3) (arg4.view.read (Elt Ideal) X_4) (arg5.view.read (Elt Ideal) X_5)) (y 0)).codeK (y 1)

theorem pieceC (q : Fin 10) (off : Fin 2 → ℕ) (inb : ∀ a, off a + S32x256.size a ≤ S256x2560.size a)
    (hoff : off = ![32 * k.val, 256 * q.val]) (off4 : Fin 2 → ℕ) (inb4 : ∀ a, off4 a + S32x256.size a ≤ S32x2560.size a)
    (hoff4 : off4 = ![0, 256 * q.val]) (x : S32x256.Idx) :
    codeP (k0_pay86 (F := Ideal) (trip.sl.r_43 (F := Ideal) c arg1 arg2 arg3 arg4 arg5 arg10 X_1 X_2 X_3 X_4 X_5 k))
      (arg12.view.readCov (trip.sl.H12_10 (F := Ideal) c arg1 arg2 arg3 arg4 arg5 arg10 X_1 X_2 X_3 X_4 X_5 k) (Rect.unit (s := S32x2560) off4 S32x256.size inb4).toLoadRect) x
      = G6 c arg1 arg2 arg3 arg4 arg5 X_1 X_2 X_3 X_4 X_5 ((Rect.unit (s := S256x2560) off S32x256.size inb).emb x) := by
  obtain ⟨r, l, rfl⟩ : ∃ (r : Fin 32) (l : Fin 256), x = ix2 r l := ⟨x 0, x 1, by funext a; fin_cases a <;> rfl⟩
  rw [codeP_at, cov12 c arg1 arg2 arg3 arg4 arg5 arg10 arg12 X_1 X_2 X_3 X_4 X_5 k q off4 inb4 hoff4]
  show _ = G6 c arg1 arg2 arg3 arg4 arg5 X_1 X_2 X_3 X_4 X_5 ((Rect.unit (s := S256x2560) off S32x256.size inb).toLoadRect.idx (ix2 r l))
  rw [idxBand k q off inb hoff]
  have hi : k0_pay86 (F := Ideal) (trip.sl.r_43 (F := Ideal) c arg1 arg2 arg3 arg4 arg5 arg10 X_1 X_2 X_3 X_4 X_5 k) (ix2 r 0) = ((rowOf (arg1.view.read (Elt Ideal) X_1) (arg2.view.read (Elt Ideal) X_2) (arg3.view.read (Elt Ideal) X_3) (arg4.view.read (Elt Ideal) X_4) (arg5.view.read (Elt Ideal) X_5)) (bandRow k r)).invK := by
    show k0_pay86 (F := Ideal) (exP (trip.sl.r_39 (F := Ideal) c arg1 arg2 arg3 arg4 arg5 arg10 X_1 X_2 X_3 X_4 X_5 k) (trip.sl.cst_206 (F := Ideal))) (ix2 r 0) = _
    rw [invP_at]
    have he := r_43_at c arg1 arg2 arg3 arg4 arg5 arg10 X_1 X_2 X_3 X_4 X_5 k r 0
    have he' : exP (trip.sl.r_39 (F := Ideal) c arg1 arg2 arg3 arg4 arg5 arg10 X_1 X_2 X_3 X_4 X_5 k) (trip.sl.cst_206 (F := Ideal)) (ix2 r 0) = eWord ((rowOf (arg1.view.read (Elt Ideal) X_1) (arg2.view.read (Elt Ideal) X_2) (arg3.view.read (Elt Ideal) X_3) (arg4.view.read (Elt Ideal) X_4) (arg5.view.read (Elt Ideal) X_5)) (bandRow k r)).am ((rowOf (arg1.view.read (Elt Ideal) X_1) (arg2.view.read (Elt Ideal) X_2) (arg3.view.read (Elt Ideal) X_3) (arg4.view.read (Elt Ideal) X_4) (arg5.view.read (Elt Ideal) X_5)) (bandRow k r)).v := he
    rw [he']
    rfl
  rw [hi]
  rfl

/-- The codes' pieces of one trip. -/
def L6 : List (View.Piece (Elt Ideal) S256x2560 .fp8e4m3) :=
  ⟨Rect.unit (k0_off10 k) S32x256.size (k0_off10_inb k), trip.sl.r_47 (F := Ideal) c arg1 arg2 arg3 arg4 arg5 arg10 arg12 X_1 X_2 X_3 X_4 X_5 k⟩
    :: ⟨Rect.unit (k0_off9 k) S32x256.size (k0_off9_inb k), k0_pay96 (trip.sl.r_45 (F := Ideal) c arg1 arg2 arg3 arg4 arg5 arg10 X_1 X_2 X_3 X_4 X_5 k) (trip.sl.v859 (F := Ideal) c arg1 arg2 arg3 arg4 arg5 arg10 arg12 X_1 X_2 X_3 X_4 X_5 k)⟩
    :: ⟨Rect.unit (k0_off8 k) S32x256.size (k0_off8_inb k), k0_pay95 (trip.sl.r_45 (F := Ideal) c arg1 arg2 arg3 arg4 arg5 arg10 X_1 X_2 X_3 X_4 X_5 k) (trip.sl.v849 (F := Ideal) c arg1 arg2 arg3 arg4 arg5 arg10 arg12 X_1 X_2 X_3 X_4 X_5 k)⟩
    :: ⟨Rect.unit (k0_off7 k) S32x256.size (k0_off7_inb k), k0_pay94 (trip.sl.r_45 (F := Ideal) c arg1 arg2 arg3 arg4 arg5 arg10 X_1 X_2 X_3 X_4 X_5 k) (trip.sl.v839 (F := Ideal) c arg1 arg2 arg3 arg4 arg5 arg10 arg12 X_1 X_2 X_3 X_4 X_5 k)⟩
    :: trip.sl.H6_6 (F := Ideal) c arg1 arg2 arg3 arg4 arg5 arg10 arg12 X_1 X_2 X_3 X_4 X_5 k

set_option maxHeartbeats 4000000 in
theorem L6_pieces : ∀ p ∈ L6 c arg1 arg2 arg3 arg4 arg5 arg10 arg12 X_1 X_2 X_3 X_4 X_5 k, ∀ x : p.1.shape.Idx, p.2 x = G6 c arg1 arg2 arg3 arg4 arg5 X_1 X_2 X_3 X_4 X_5 (p.1.emb x) :=
    List.forall_mem_cons.mpr ⟨pieceC c arg1 arg2 arg3 arg4 arg5 arg10 arg12 X_1 X_2 X_3 X_4 X_5 k 9 _ (k0_off10_inb k) (k0_off10_eq k) _ inb_S32x2560_S32x256_0_2304 rfl,
    List.forall_mem_cons.mpr ⟨pieceC c arg1 arg2 arg3 arg4 arg5 arg10 arg12 X_1 X_2 X_3 X_4 X_5 k 8 _ (k0_off9_inb k) (k0_off9_eq k) _ inb_S32x2560_S32x256_0_2048 rfl,
    List.forall_mem_cons.mpr ⟨pieceC c arg1 arg2 arg3 arg4 arg5 arg10 arg12 X_1 X_2 X_3 X_4 X_5 k 7 _ (k0_off8_inb k) (k0_off8_eq k) _ inb_S32x2560_S32x256_0_1792 rfl,
    List.forall_mem_cons.mpr ⟨pieceC c arg1 arg2 arg3 arg4 arg5 arg10 arg12 X_1 X_2 X_3 X_4 X_5 k 6 _ (k0_off7_inb k) (k0_off7_eq k) _ inb_S32x2560_S32x256_0_1536 rfl,
    List.forall_mem_cons.mpr ⟨pieceC c arg1 arg2 arg3 arg4 arg5 arg10 arg12 X_1 X_2 X_3 X_4 X_5 k 5 _ (k0_off6_inb k) (k0_off6_eq k) _ inb_S32x2560_S32x256_0_1280 rfl,
    List.forall_mem_cons.mpr ⟨pieceC c arg1 arg2 arg3 arg4 arg5 arg10 arg12 X_1 X_2 X_3 X_4 X_5 k 4 _ (k0_off5_inb k) (k0_off5_eq k) _ inb_S32x2560_S32x256_0_1024 rfl,
    List.forall_mem_cons.mpr ⟨pieceC c arg1 arg2 arg3 arg4 arg5 arg10 arg12 X_1 X_2 X_3 X_4 X_5 k 3 _ (k0_off4_inb k) (k0_off4_eq k) _ inb_S32x2560_S32x256_0_768 rfl,
    List.forall_mem_cons.mpr ⟨pieceC c arg1 arg2 arg3 arg4 arg5 arg10 arg12 X_1 X_2 X_3 X_4 X_5 k 2 _ (k0_off3_inb k) (k0_off3_eq k) _ inb_S32x2560_S32x256_0_512 rfl,
    List.forall_mem_cons.mpr ⟨pieceC c arg1 arg2 arg3 arg4 arg5 arg10 arg12 X_1 X_2 X_3 X_4 X_5 k 1 _ (k0_off2_inb k) (k0_off2_eq k) _ inb_S32x2560_S32x256_0_256 rfl,
    List.forall_mem_cons.mpr ⟨pieceC c arg1 arg2 arg3 arg4 arg5 arg10 arg12 X_1 X_2 X_3 X_4 X_5 k 0 _ (k0_off1_inb k) (k0_off1_eq k) _ inb_S32x2560_S32x256_0_0 rfl,
    List.forall_mem_nil _⟩⟩⟩⟩⟩⟩⟩⟩⟩⟩

theorem L6_cover (y : S256x2560.Idx) (h1 : 32 * k.val ≤ (y 0).val) (h2 : (y 0).val < 32 * (k.val + 1)) :
    ∃ p ∈ L6 c arg1 arg2 arg3 arg4 arg5 arg10 arg12 X_1 X_2 X_3 X_4 X_5 k, y ∈ p.1.set := by
  have hy : (y 1).val < 2560 := (y 1).isLt
  have hq : (y 1).val / 256 = 0 ∨ (y 1).val / 256 = 1 ∨ (y 1).val / 256 = 2 ∨ (y 1).val / 256 = 3 ∨ (y 1).val / 256 = 4
      ∨ (y 1).val / 256 = 5 ∨ (y 1).val / 256 = 6 ∨ (y 1).val / 256 = 7 ∨ (y 1).val / 256 = 8 ∨ (y 1).val / 256 = 9 := by omega
  rcases hq with h | h | h | h | h | h | h | h | h | h
  · exact ⟨_, .tail _ (.tail _ (.tail _ (.tail _ (.tail _ (.tail _ (.tail _ (.tail _ (.tail _ (.head _))))))))), mem_band k 0 _ (k0_off1_inb k) (k0_off1_eq k) y h1 h2 (by show 256 * 0 ≤ _; omega) (by show _ < 256 * (0 + 1); omega)⟩
  · exact ⟨_, .tail _ (.tail _ (.tail _ (.tail _ (.tail _ (.tail _ (.tail _ (.tail _ (.head _)))))))), mem_band k 1 _ (k0_off2_inb k) (k0_off2_eq k) y h1 h2 (by show 256 * 1 ≤ _; omega) (by show _ < 256 * (1 + 1); omega)⟩
  · exact ⟨_, .tail _ (.tail _ (.tail _ (.tail _ (.tail _ (.tail _ (.tail _ (.head _))))))), mem_band k 2 _ (k0_off3_inb k) (k0_off3_eq k) y h1 h2 (by show 256 * 2 ≤ _; omega) (by show _ < 256 * (2 + 1); omega)⟩
  · exact ⟨_, .tail _ (.tail _ (.tail _ (.tail _ (.tail _ (.tail _ (.head _)))))), mem_band k 3 _ (k0_off4_inb k) (k0_off4_eq k) y h1 h2 (by show 256 * 3 ≤ _; omega) (by show _ < 256 * (3 + 1); omega)⟩
  · exact ⟨_, .tail _ (.tail _ (.tail _ (.tail _ (.tail _ (.head _))))), mem_band k 4 _ (k0_off5_inb k) (k0_off5_eq k) y h1 h2 (by show 256 * 4 ≤ _; omega) (by show _ < 256 * (4 + 1); omega)⟩
  · exact ⟨_, .tail _ (.tail _ (.tail _ (.tail _ (.head _)))), mem_band k 5 _ (k0_off6_inb k) (k0_off6_eq k) y h1 h2 (by show 256 * 5 ≤ _; omega) (by show _ < 256 * (5 + 1); omega)⟩
  · exact ⟨_, .tail _ (.tail _ (.tail _ (.head _))), mem_band k 6 _ (k0_off7_inb k) (k0_off7_eq k) y h1 h2 (by show 256 * 6 ≤ _; omega) (by show _ < 256 * (6 + 1); omega)⟩
  · exact ⟨_, .tail _ (.tail _ (.head _)), mem_band k 7 _ (k0_off8_inb k) (k0_off8_eq k) y h1 h2 (by show 256 * 7 ≤ _; omega) (by show _ < 256 * (7 + 1); omega)⟩
  · exact ⟨_, .tail _ (.head _), mem_band k 8 _ (k0_off9_inb k) (k0_off9_eq k) y h1 h2 (by show 256 * 8 ≤ _; omega) (by show _ < 256 * (8 + 1); omega)⟩
  · exact ⟨_, .head _, mem_band k 9 _ (k0_off10_inb k) (k0_off10_eq k) y h1 h2 (by show 256 * 9 ≤ _; omega) (by show _ < 256 * (9 + 1); omega)⟩

theorem L6_miss (y : S256x2560.Idx) (h : (y 0).val < 32 * k.val) : ∀ p ∈ L6 c arg1 arg2 arg3 arg4 arg5 arg10 arg12 X_1 X_2 X_3 X_4 X_5 k, y ∉ p.1.set :=
    List.forall_mem_cons.mpr ⟨not_mem_band k 9 _ (k0_off10_inb k) (k0_off10_eq k) y h,
    List.forall_mem_cons.mpr ⟨not_mem_band k 8 _ (k0_off9_inb k) (k0_off9_eq k) y h,
    List.forall_mem_cons.mpr ⟨not_mem_band k 7 _ (k0_off8_inb k) (k0_off8_eq k) y h,
    List.forall_mem_cons.mpr ⟨not_mem_band k 6 _ (k0_off7_inb k) (k0_off7_eq k) y h,
    List.forall_mem_cons.mpr ⟨not_mem_band k 5 _ (k0_off6_inb k) (k0_off6_eq k) y h,
    List.forall_mem_cons.mpr ⟨not_mem_band k 4 _ (k0_off5_inb k) (k0_off5_eq k) y h,
    List.forall_mem_cons.mpr ⟨not_mem_band k 3 _ (k0_off4_inb k) (k0_off4_eq k) y h,
    List.forall_mem_cons.mpr ⟨not_mem_band k 2 _ (k0_off3_inb k) (k0_off3_eq k) y h,
    List.forall_mem_cons.mpr ⟨not_mem_band k 1 _ (k0_off2_inb k) (k0_off2_eq k) y h,
    List.forall_mem_cons.mpr ⟨not_mem_band k 0 _ (k0_off1_inb k) (k0_off1_eq k) y h,
    List.forall_mem_nil _⟩⟩⟩⟩⟩⟩⟩⟩⟩⟩

end Trip

end Cert.KernelIdeal.Hand

end
-- ==== Proof.KernelIdealMask.lean ====
module

public import proofs.«01_k».proof.Proof.KernelIdealRows

@[expose] public section

set_option maxRecDepth 16384

noncomputable section

namespace Cert.KernelIdeal.Hand

open Cert.KernelIdeal Cert.KernelIdeal.Gen Cert.Hand
open Idealize.ShloMosaic Idealize.ShloMosaic.TcCoe

theorem shl_words : ∀ p : Fin 1024, (IntOp.shli ArithUnit.vector (1#32) (IntOp.andi (BitVec.ofNat 32 p.val) 7#32)) = BitVec.ofNat 32 (2 ^ (p.val % 8)) := by
  decide +kernel

theorem shr_words : ∀ p : Fin 1024, (IntOp.shrsi ArithUnit.vector (BitVec.ofNat 32 p.val) 3#32) = BitVec.ofNat 32 (p.val / 8) := by
  decide +kernel

theorem sel_eq {α : Type} (a b : ℕ) (ha : a < 2 ^ 32) (hb : b < 2 ^ 32) (x y : α) :
    Scalar.select (IntOp.cmpi .eq (BitVec.ofNat 32 a) (BitVec.ofNat 32 b)) x y = if a = b then x else y := by
  have e : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases h : a = b
  · subst h
    rw [if_pos rfl]
    simp [IntOp.cmpi, Scalar.select]
  · rw [if_neg h]
    have : ¬ BitVec.ofNat 32 a = BitVec.ofNat 32 b := fun h' => h (e.mp h')
    have h2 : (BitVec.ofNat 32 a == BitVec.ofNat 32 b) = false := by simpa using this
    simp [IntOp.cmpi, Scalar.select, h2]

theorem pack_at (p : Fin 1024) (n : Fin 128) :
    k0_pay98 (F := Ideal) (ix2 p n) = if p.val / 8 = n.val then ((2 ^ (p.val % 8) : ℕ) : EReal) else 0 := by
  pointwise [k0_pay98]
  rw [shl_words, shr_words, sel_eq _ _ (by omega) (by omega)]
  have hb : p.val % 8 < 8 := Nat.mod_lt _ (by norm_num)
  have e : FloatOps.sitofp (F := Ideal) FTy.f32 (BitVec.ofNat 32 (2 ^ (p.val % 8))) = ((2 ^ (p.val % 8) : ℕ) : EReal) := by
    show (((BitVec.ofNat 32 (2 ^ (p.val % 8))).toInt : ℝ) : EReal) = _
    have : (BitVec.ofNat 32 (2 ^ (p.val % 8))).toInt = ((2 ^ (p.val % 8) : ℕ) : ℤ) := by
      generalize p.val % 8 = b at hb
      interval_cases b <;> rfl
    rw [this, Int.cast_natCast]
    exact EReal.coe_natCast
  rw [e]

theorem packDot (Q : ℕ) (f : Fin (Q * 8) → EReal) (n : Fin Q) :
    ∑ x : Fin (Q * 8), f x * (if x.val / 8 = n.val then ((2 ^ (x.val % 8) : ℕ) : EReal) else 0)
      = ∑ b : Fin 8, f ⟨8 * n.val + b.val, by omega⟩ * ((2 ^ b.val : ℕ) : EReal) := by
  rw [← Equiv.sum_comp (finProdFinEquiv (m := Q) (n := 8)), Fintype.sum_prod_type, Finset.sum_eq_single n]
  · refine Finset.sum_congr rfl fun b _ => ?_
    have h1 : (finProdFinEquiv (n, b) : Fin (Q * 8)) = ⟨8 * n.val + b.val, by omega⟩ := Fin.ext (by
      show b.val + 8 * n.val = 8 * n.val + b.val; omega)
    rw [h1, if_pos (by show (8 * n.val + b.val) / 8 = n.val; omega)]
    have h2 : (8 * n.val + b.val) % 8 = b.val := by omega
    show _ * ((2 ^ ((8 * n.val + b.val) % 8) : ℕ) : EReal) = _
    rw [h2]
  · intro q _ hq
    refine Finset.sum_eq_zero fun b _ => ?_
    rw [if_neg, mul_zero]
    show ¬ (b.val + 8 * q.val) / 8 = n.val
    intro h
    exact hq (Fin.ext (by omega))
  · intro h
    exact absurd (Finset.mem_univ _) h

theorem one_bits : Ideal.ofBits .f32 0x3F800000#32 = 1 := by
  pointwise

theorem bitSum (K : Fin 8 → BitVec 1) :
    ∑ b : Fin 8, Scalar.select (K b) (Ideal.ofBits .f32 0x3F800000#32) 0 * ((2 ^ b.val : ℕ) : EReal) = ((∑ b : Fin 8, (K b).toNat * 2 ^ b.val : ℕ) : EReal) := by
  rw [Nat.cast_sum]
  refine Finset.sum_congr rfl fun b _ => ?_
  rcases BitVec.eq_zero_or_eq_one (K b) with h | h
  · rw [h]; simp [Scalar.select]
  · rw [h, one_bits]; simp [Scalar.select]

theorem bitSum_lt (K : Fin 8 → BitVec 1) : ∑ b : Fin 8, (K b).toNat * 2 ^ b.val < 256 := by
  have h : ∀ b, (K b).toNat ≤ 1 := fun b => by have := (K b).isLt; omega
  simp only [Fin.sum_univ_eight]
  have := h 0; have := h 1; have := h 2; have := h 3; have := h 4; have := h 5; have := h 6; have := h 7
  show (K 0).toNat * 1 + (K 1).toNat * 2 + (K 2).toNat * 4 + (K 3).toNat * 8 + (K 4).toNat * 16 + (K 5).toNat * 32 + (K 6).toNat * 64
    + (K 7).toNat * 128 < 256
  omega

theorem byteWord (N : ℕ) (h : N < 256) :
    BitVec.setWidth 8 (FloatOps.fptosi (F := Ideal) (φ := .f32) 32 (Ideal.liftRound Ideal.roundHalfEven (N : EReal))) = BitVec.ofNat 8 N := by
  have e1 : Ideal.liftRound Ideal.roundHalfEven (N : EReal) = (((N : ℤ) : ℝ) : EReal) := by
    have e0 : (N : EReal) = (((N : ℝ)) : EReal) := EReal.coe_natCast.symm
    rw [e0]
    show (((Ideal.roundHalfEven (N : ℝ) : ℤ) : ℝ) : EReal) = _
    have : Ideal.roundHalfEven (N : ℝ) = (N : ℤ) := by
      unfold Ideal.roundHalfEven
      simp
    rw [this]
  rw [e1]
  have e2 : FloatOps.fptosi (F := Ideal) (φ := .f32) 32 (((N : ℤ) : ℝ) : EReal) = BitVec.ofNat 32 N := by
    show BitVec.ofInt 32 (Ideal.toIntClamped (-(2 ^ (32 - 1) : Nat)) ((2 ^ (32 - 1) : Nat) - 1) (((N : ℤ) : ℝ) : EReal)) = _
    have : Ideal.toIntClamped (-(2 ^ (32 - 1) : Nat)) ((2 ^ (32 - 1) : Nat) - 1) (((N : ℤ) : ℝ) : EReal) = (N : ℤ) := by
      show max (-(2 ^ (32 - 1) : Nat) : ℤ) (min ((2 ^ (32 - 1) : Nat) - 1) (if 0 ≤ ((N : ℤ) : ℝ) then ⌊((N : ℤ) : ℝ)⌋ else ⌈((N : ℤ) : ℝ)⌉)) = _
      rw [Int.floor_intCast, Int.ceil_intCast, ite_self]
      norm_num
      omega
    rw [this]
    exact BitVec.ofInt_natCast 32 N
  rw [e2]
  apply BitVec.eq_of_toNat_eq
  simp
  try omega

variable (R : RowIn) (r : Fin 32)

/-- What a chunk of keep values says of its row. -/
def KeepOk (q : Fin 10) (v : FVec Ideal S32x256 .bf16) : Prop :=
  ∀ l : Fin 256, v (ix2 r l) = Scalar.select (R.keep (chunkCol q l)) (Ideal.ofBits .f32 0x3F800000#32) 0

theorem mask_of_dot (n : Fin 320) (s : EReal)
    (hs : s = ∑ b : Fin 8, Scalar.select (R.keep ⟨8 * n.val + b.val, by omega⟩) (Ideal.ofBits .f32 0x3F800000#32) 0 * ((2 ^ b.val : ℕ) : EReal)) :
    BitVec.setWidth 8 (FloatOps.fptosi (F := Ideal) (φ := .f32) 32 (Ideal.liftRound Ideal.roundHalfEven s)) = R.mask n := by
  rw [hs, bitSum]
  exact byteWord _ (bitSum_lt _)

theorem selCong {j j' : Fin 2560} (h : j.val = j'.val) : Scalar.select (R.keep j) (Ideal.ofBits .f32 0x3F800000#32) (0 : EReal) = Scalar.select (R.keep j') 1 0 := by
  rw [Fin.ext h, one_bits]

theorem cat4 (q : ℕ) (hq : q + 3 < 10) (a b c d : FVec Ideal S32x256 .bf16) (ea : KeepOk R r ⟨q, by omega⟩ a) (eb : KeepOk R r ⟨q + 1, by omega⟩ b)
    (ec : KeepOk R r ⟨q + 2, by omega⟩ c) (ed : KeepOk R r ⟨q + 3, hq⟩ d) (x : Fin 1024) :
    k0_pay47 (F := Ideal) a b c d (ix2 r x) = Scalar.select (R.keep ⟨256 * q + x.val, by omega⟩) (Ideal.ofBits .f32 0x3F800000#32) 0 := by
  pointwise [k0_pay47]
  split
  · refine (ea _).trans (selCong R ?_); show 256 * q + x.val = _; rfl
  · split
    · refine (eb _).trans (selCong R ?_); show 256 * (q + 1) + (x.val - 256) = 256 * q + x.val; omega
    · split
      · refine (ec _).trans (selCong R ?_); show 256 * (q + 2) + (x.val - 256 - 256) = 256 * q + x.val; omega
      · refine (ed _).trans (selCong R ?_); show 256 * (q + 3) + (x.val - 256 - 256 - 256) = 256 * q + x.val; omega

theorem mask4 (q : ℕ) (hq : q + 3 < 10) (a b c d : FVec Ideal S32x256 .bf16) (ea : KeepOk R r ⟨q, by omega⟩ a) (eb : KeepOk R r ⟨q + 1, by omega⟩ b)
    (ec : KeepOk R r ⟨q + 2, by omega⟩ c) (ed : KeepOk R r ⟨q + 3, hq⟩ d) (w : Vec Ideal S1024x128 .bf16)
    (hw : ∀ (p : Fin 1024) (n : Fin 128), w (ix2 p n) = if p.val / 8 = n.val then ((2 ^ (p.val % 8) : ℕ) : EReal) else 0) (n : Fin 128) :
    k0_pay48 (F := Ideal) (k0_pay47 (F := Ideal) a b c d) w (ix2 r n) = R.mask ⟨32 * q + n.val, by omega⟩ := by
  pointwise [k0_pay48]
  refine mask_of_dot R _ _ ?_
  simp only [cat4 R r q hq a b c d ea eb ec ed, hw]
  refine (packDot 128 (fun x : Fin (128 * 8) => Scalar.select (R.keep ⟨256 * q + x.val, by omega⟩) (Ideal.ofBits .f32 0x3F800000#32) (0 : EReal)) n).trans ?_
  refine Finset.sum_congr rfl fun b _ => ?_
  exact congrArg (fun j => Scalar.select (R.keep j) _ _ * _) (Fin.ext (by show 256 * q + (8 * n.val + b.val) = 8 * (32 * q + n.val) + b.val; omega))

theorem mask2 (a b : FVec Ideal S32x256 .bf16) (ea : KeepOk R r 8 a) (eb : KeepOk R r 9 b) (w : Vec Ideal S512x128 .bf16)
    (hw : ∀ (p : Fin 512) (n : Fin 128), w (ix2 p n) = if p.val / 8 = n.val then ((2 ^ (p.val % 8) : ℕ) : EReal) else 0) (n : Fin 64) :
    k0_pay50 (F := Ideal) a b w (ix2 r n) = R.mask ⟨256 + n.val, by omega⟩ := by
  pointwise [k0_pay50]
  refine mask_of_dot R _ _ ?_
  simp only [ea _, eb _, hw]
  have e := packDot 64 (fun x : Fin (64 * 8) => Scalar.select (R.keep ⟨2048 + x.val, by omega⟩) (Ideal.ofBits .f32 0x3F800000#32) (0 : EReal)) n
  have e' := (Fin.sum_univ_add (a := 256) (b := 256) (fun x : Fin (256 + 256) => Scalar.select (R.keep ⟨2048 + x.val, by omega⟩) (Ideal.ofBits .f32 0x3F800000#32) (0 : EReal) * (if x.val / 8 = n.val then ((2 ^ (x.val % 8) : ℕ) : EReal) else 0))).symm.trans e
  refine Eq.trans (congrArg₂ (· + ·) (Finset.sum_congr rfl fun x _ => ?_) (Finset.sum_congr rfl fun x _ => ?_)) (e'.trans (Finset.sum_congr rfl fun b _ => ?_))
  · rfl
  · exact congrArg (fun j => Scalar.select (R.keep j) _ _ * _) (Fin.ext (by show 256 * 9 + x.val = 2048 + (256 + x.val); omega))
  · exact congrArg (fun j => Scalar.select (R.keep j) _ _ * _) (Fin.ext (by show 2048 + (8 * n.val + b.val) = 8 * (256 + n.val) + b.val; omega))

end Cert.KernelIdeal.Hand

end
-- ==== Proof.KernelIdealLoop.lean ====
module

public import proofs.«01_k».proof.Proof.KernelIdealTrip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem k0_off15_0_eq : ∀ i : grid0.Coords, k0_off15 i 0#32 = ![0, 256 * ((i 0).val % 4)] := by decide +kernel
theorem k0_off15_128_eq : ∀ i : grid0.Coords, k0_off15 i 128#32 = ![0, 256 * ((i 0).val % 4) + 128] := by decide +kernel
instance closedOff15_0 (i : grid0.Coords) : ClosedOff (k0_off15 i 0#32) := ⟨![0, 256 * ((i 0).val % 4)], k0_off15_0_eq i⟩
instance closedOff15_128 (i : grid0.Coords) : ClosedOff (k0_off15 i 128#32) := ⟨![0, 256 * ((i 0).val % 4) + 128], k0_off15_128_eq i⟩

theorem wrStep {κ : Kind} {sp : Space} {s : Shape} {e : EltTy} (v : View sig κ sp s e) {f G : BufTy.Contents (Elt F) v.ty}
    {L P P' : List (View.Piece (Elt F) s e)} (hf : f = v.writes (Elt F) G P) (hp : P' = L ++ P) :
    v.writes (Elt F) f L = v.writes (Elt F) G P' := by
  subst hf
  subst hp
  rw [View.writes_append]

/-- The pieces that the trips before a given one write into argument 6. -/
def pb6 (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) : ℕ → List (View.Piece (Elt F) S256x2560 .fp8e4m3)
  | 0 => []
  | n + 1 => if h : n < k0_t1_loop.trips then (trip (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 ⟨n, h⟩).1 ++ pb6 c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n else pb6 c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n

theorem pb6_succ (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) (k : Fin k0_t1_loop.trips) :
    pb6 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 (k.val + 1) = (trip (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k).1 ++ pb6 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k.val := by
  rw [pb6.eq_2]
  exact dif_pos k.isLt

/-- The pieces that the trips before a given one write into argument 8. -/
def pb8 (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) : ℕ → List (View.Piece (Elt F) S256x320 .i8)
  | 0 => []
  | n + 1 => if h : n < k0_t1_loop.trips then (trip (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 ⟨n, h⟩).2.1 ++ pb8 c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n else pb8 c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n

theorem pb8_succ (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) (k : Fin k0_t1_loop.trips) :
    pb8 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 (k.val + 1) = (trip (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k).2.1 ++ pb8 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k.val := by
  rw [pb8.eq_2]
  exact dif_pos k.isLt

/-- The pieces that the trips before a given one write into argument 10. -/
def pb10 (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) : ℕ → List (View.Piece (Elt F) S256x2560 .bf16)
  | 0 => []
  | n + 1 => if h : n < k0_t1_loop.trips then (trip (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 ⟨n, h⟩).2.2.1 ++ pb10 c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n else pb10 c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n

theorem pb10_succ (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) (k : Fin k0_t1_loop.trips) :
    pb10 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 (k.val + 1) = (trip (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k).2.2.1 ++ pb10 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k.val := by
  rw [pb10.eq_2]
  exact dif_pos k.isLt

/-- The pieces that the trips before a given one write into argument 12. -/
def pb12 (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) : ℕ → List (View.Piece (Elt F) S32x2560 .f32)
  | 0 => []
  | n + 1 => if h : n < k0_t1_loop.trips then (trip (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 ⟨n, h⟩).2.2.2.1 ++ pb12 c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n else pb12 c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n

theorem pb12_succ (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) (k : Fin k0_t1_loop.trips) :
    pb12 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 (k.val + 1) = (trip (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k).2.2.2.1 ++ pb12 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k.val := by
  rw [pb12.eq_2]
  exact dif_pos k.isLt

/-- The pieces that the trips before a given one write into argument 13. -/
def pb13 (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) : ℕ → List (View.Piece (Elt F) S256x128 .f32)
  | 0 => []
  | n + 1 => if h : n < k0_t1_loop.trips then (trip (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 ⟨n, h⟩).2.2.2.2.1 ++ pb13 c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n else pb13 c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n

theorem pb13_succ (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) (k : Fin k0_t1_loop.trips) :
    pb13 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 (k.val + 1) = (trip (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k).2.2.2.2.1 ++ pb13 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k.val := by
  rw [pb13.eq_2]
  exact dif_pos k.isLt

/-- The pieces that the trips before a given one write into argument 14. -/
def pb14 (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) : ℕ → List (View.Piece (Elt F) S256x128 .f32)
  | 0 => []
  | n + 1 => if h : n < k0_t1_loop.trips then (trip (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 ⟨n, h⟩).2.2.2.2.2.1 ++ pb14 c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n else pb14 c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n

theorem pb14_succ (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) (k : Fin k0_t1_loop.trips) :
    pb14 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 (k.val + 1) = (trip (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k).2.2.2.2.2.1 ++ pb14 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k.val := by
  rw [pb14.eq_2]
  exact dif_pos k.isLt

/-- Before every trip: the inputs and the pack weights at fixed contents, each written buffer at the pieces of the trips before. -/
abbrev loopInv (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) (G_6 : Buf (Elt F) (arg6.view.loc (c : Thread nD τ))) (G_8 : Buf (Elt F) (arg8.view.loc (c : Thread nD τ))) (G_10 : Buf (Elt F) (arg10.view.loc (c : Thread nD τ))) (G_12 : Buf (Elt F) (arg12.view.loc (c : Thread nD τ))) (G_13 : Buf (Elt F) (arg13.view.loc (c : Thread nD τ))) (G_14 : Buf (Elt F) (arg14.view.loc (c : Thread nD τ))) (n : ℕ) : sProp 𝕄 :=
  iprop((arg1.view.loc (c : Thread nD τ) ↦[arg1.view.set]{fullShare} X_1)
      ∗ (arg2.view.loc (c : Thread nD τ) ↦[arg2.view.set]{fullShare} X_2)
      ∗ (arg3.view.loc (c : Thread nD τ) ↦[arg3.view.set]{fullShare} X_3)
      ∗ (arg4.view.loc (c : Thread nD τ) ↦[arg4.view.set]{fullShare} X_4)
      ∗ (arg5.view.loc (c : Thread nD τ) ↦[arg5.view.set]{fullShare} X_5)
      ∗ (arg11.view.loc (c : Thread nD τ) ↦[arg11.view.set]{fullShare} X_11)
      ∗ (∃ f_6 : Buf (Elt F) (arg6.view.loc (c : Thread nD τ)), (arg6.view.loc (c : Thread nD τ) ↦[arg6.view.set]{fullShare} f_6) ∗ ⌜f_6 = arg6.view.writes (Elt F) G_6 (pb6 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n)⌝)
      ∗ (∃ f_8 : Buf (Elt F) (arg8.view.loc (c : Thread nD τ)), (arg8.view.loc (c : Thread nD τ) ↦[arg8.view.set]{fullShare} f_8) ∗ ⌜f_8 = arg8.view.writes (Elt F) G_8 (pb8 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n)⌝)
      ∗ (∃ f_10 : Buf (Elt F) (arg10.view.loc (c : Thread nD τ)), (arg10.view.loc (c : Thread nD τ) ↦[arg10.view.set]{fullShare} f_10) ∗ ⌜f_10 = arg10.view.writes (Elt F) G_10 (pb10 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n)⌝)
      ∗ (∃ f_12 : Buf (Elt F) (arg12.view.loc (c : Thread nD τ)), (arg12.view.loc (c : Thread nD τ) ↦[arg12.view.set]{fullShare} f_12) ∗ ⌜f_12 = arg12.view.writes (Elt F) G_12 (pb12 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n)⌝)
      ∗ (∃ f_13 : Buf (Elt F) (arg13.view.loc (c : Thread nD τ)), (arg13.view.loc (c : Thread nD τ) ↦[arg13.view.set]{fullShare} f_13) ∗ ⌜f_13 = arg13.view.writes (Elt F) G_13 (pb13 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n)⌝)
      ∗ (∃ f_14 : Buf (Elt F) (arg14.view.loc (c : Thread nD τ)), (arg14.view.loc (c : Thread nD τ) ↦[arg14.view.set]{fullShare} f_14) ∗ ⌜f_14 = arg14.view.writes (Elt F) G_14 (pb14 (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n)⌝))

set_option maxHeartbeats 0 in
/-- The row-group loop. -/
@[sl_loop] def loop (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt F) (arg1.view.loc (c : Thread nD τ))) (X_2 : Buf (Elt F) (arg2.view.loc (c : Thread nD τ))) (X_3 : Buf (Elt F) (arg3.view.loc (c : Thread nD τ))) (X_4 : Buf (Elt F) (arg4.view.loc (c : Thread nD τ))) (X_5 : Buf (Elt F) (arg5.view.loc (c : Thread nD τ))) (X_11 : Buf (Elt F) (arg11.view.loc (c : Thread nD τ))) (G_6 : Buf (Elt F) (arg6.view.loc (c : Thread nD τ))) (G_8 : Buf (Elt F) (arg8.view.loc (c : Thread nD τ))) (G_10 : Buf (Elt F) (arg10.view.loc (c : Thread nD τ))) (G_12 : Buf (Elt F) (arg12.view.loc (c : Thread nD τ))) (G_13 : Buf (Elt F) (arg13.view.loc (c : Thread nD τ))) (G_14 : Buf (Elt F) (arg14.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 where
  inv n _ := loopInv (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 G_6 G_8 G_10 G_12 G_13 G_14 n
  step k acc := by
    iintro ⟨H1, H2, H3, H4, H5, H11, ⟨%f_6, H6, %h6⟩, ⟨%f_8, H8, %h8⟩, ⟨%f_10, H10, %h10⟩, ⟨%f_12, H12, %h12⟩, ⟨%f_13, H13, %h13⟩, ⟨%f_14, H14, %h14⟩⟩
    iapply (wp_wand_r Idealize.ShloMosaic.frame (wpE (defs₀ (F := F)) Variants.none (c : Thread nD τ) none) Set.univ)
    isplitl [H1 H2 H3 H4 H5 H11 H6 H8 H10 H12 H13 H14]
    · iapply ((trip (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k).2.2.2.2.2.2 f_6 f_8 f_10 f_12 f_13 f_14)
      isplitl [H1]; · iexact H1
      isplitl [H2]; · iexact H2
      isplitl [H3]; · iexact H3
      isplitl [H4]; · iexact H4
      isplitl [H5]; · iexact H5
      isplitl [H11]; · iexact H11
      isplitl [H6]; · iexact H6
      isplitl [H8]; · iexact H8
      isplitl [H10]; · iexact H10
      isplitl [H12]; · iexact H12
      isplitl [H13]; · iexact H13
      iexact H14
    · iintro %_ ⟨H1, H2, H3, H4, H5, H11, H6, H8, H10, H12, H13, H14⟩
      isplitl [H1]; · iexact H1
      isplitl [H2]; · iexact H2
      isplitl [H3]; · iexact H3
      isplitl [H4]; · iexact H4
      isplitl [H5]; · iexact H5
      isplitl [H11]; · iexact H11
      isplitl [H6]
      · iexists _
        isplitl [H6]; · iexact H6
        ipureintro
        exact wrStep _ h6 (pb6_succ (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k)
      isplitl [H8]
      · iexists _
        isplitl [H8]; · iexact H8
        ipureintro
        exact wrStep _ h8 (pb8_succ (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k)
      isplitl [H10]
      · iexists _
        isplitl [H10]; · iexact H10
        ipureintro
        exact wrStep _ h10 (pb10_succ (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k)
      isplitl [H12]
      · iexists _
        isplitl [H12]; · iexact H12
        ipureintro
        exact wrStep _ h12 (pb12_succ (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k)
      isplitl [H13]
      · iexists _
        isplitl [H13]; · iexact H13
        ipureintro
        exact wrStep _ h13 (pb13_succ (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k)
      iexists _
      isplitl [H14]; · iexact H14
      ipureintro
      exact wrStep _ h14 (pb14_succ (F := F) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k)

end Cert.KernelIdeal.Hand

end
-- ==== Proof.KernelIdealBlock.lean ====
module

public import proofs.«01_k».proof.Proof.KernelIdealMask
public import proofs.«01_k».proof.Proof.KernelIdealLoop

@[expose] public section

set_option maxRecDepth 16384

noncomputable section

namespace Cert.KernelIdeal.Hand

open Cert.KernelIdeal Cert.KernelIdeal.Gen Cert.Hand
open Idealize.ShloMosaic Idealize.ShloMosaic.TcCoe

section Block

variable (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole) (X_1 : Buf (Elt Ideal) (arg1.view.loc (c : Thread nD τ))) (X_2 : Buf (Elt Ideal) (arg2.view.loc (c : Thread nD τ))) (X_3 : Buf (Elt Ideal) (arg3.view.loc (c : Thread nD τ))) (X_4 : Buf (Elt Ideal) (arg4.view.loc (c : Thread nD τ))) (X_5 : Buf (Elt Ideal) (arg5.view.loc (c : Thread nD τ))) (X_11 : Buf (Elt Ideal) (arg11.view.loc (c : Thread nD τ))) (k : Fin k0_t1_loop.trips)

/-- What the mask's window holds of the block. -/
def G8 (y : S256x320.Idx) : BitVec 8 := ((rowOf (arg1.view.read (Elt Ideal) X_1) (arg2.view.read (Elt Ideal) X_2) (arg3.view.read (Elt Ideal) X_3) (arg4.view.read (Elt Ideal) X_4) (arg5.view.read (Elt Ideal) X_5)) (y 0)).mask (y 1)

/-- What the rows of scales hold. -/
def G13 (y : S256x128.Idx) : EReal := ((rowOf (arg1.view.read (Elt Ideal) X_1) (arg2.view.read (Elt Ideal) X_2) (arg3.view.read (Elt Ideal) X_3) (arg4.view.read (Elt Ideal) X_4) (arg5.view.read (Elt Ideal) X_5)) (y 0)).scK

/-- What the rows of reciprocal root mean squares hold. -/
def G14 (y : S256x128.Idx) : EReal := ((rowOf (arg1.view.read (Elt Ideal) X_1) (arg2.view.read (Elt Ideal) X_2) (arg3.view.read (Elt Ideal) X_3) (arg4.view.read (Elt Ideal) X_4) (arg5.view.read (Elt Ideal) X_5)) (y 0)).rs

/-- The pack weights in a buffer. -/
def PackOk : Prop := ∀ (p : Fin 1024) (n : Fin 128),
  arg11.view.read (Elt Ideal) X_11 (ix2 p n) = if p.val / 8 = n.val then ((2 ^ (p.val % 8) : ℕ) : EReal) else 0

theorem keepOk_rd (q : Fin 10) (off : Fin 2 → ℕ) (inb : ∀ a, off a + S32x256.size a ≤ S256x2560.size a)
    (hoff : off = ![32 * k.val, 256 * q.val]) (r : Fin 32) :
    KeepOk ((rowOf (arg1.view.read (Elt Ideal) X_1) (arg2.view.read (Elt Ideal) X_2) (arg3.view.read (Elt Ideal) X_3) (arg4.view.read (Elt Ideal) X_4) (arg5.view.read (Elt Ideal) X_5)) (bandRow k r)) r q (keepP (View.readAt (Elt Ideal) arg4.view (Rect.unit (s := S256x2560) off S32x256.size inb).toLoadRect X_4)) :=
  fun l => keepP_rd c arg1 arg2 arg3 arg4 arg5 X_1 X_2 X_3 X_4 X_5 k q off inb hoff r l

theorem idxM128 (b : ℕ) (hb : b + 128 ≤ 320) (off : Fin 2 → ℕ) (inb : ∀ a, off a + S32x128.size a ≤ S256x320.size a)
    (hoff : off = ![32 * k.val, b]) (r : Fin 32) (l : Fin 128) :
    (Rect.unit (s := S256x320) off S32x128.size inb).emb (ix2 r l) = ix2 (bandRow k r) ⟨b + l.val, by omega⟩ := by
  subst hoff
  show (Rect.unit (s := S256x320) _ S32x128.size inb).toLoadRect.idx (ix2 r l) = _
  funext a
  fin_cases a
  · exact Fin.ext (by simp [Rect.unit, LoadRect.idx, bandRow, ix2])
  · exact Fin.ext (by simp [Rect.unit, LoadRect.idx, ix2])

theorem idxM64 (off : Fin 2 → ℕ) (inb : ∀ a, off a + S32x64.size a ≤ S256x320.size a)
    (hoff : off = ![32 * k.val, 256]) (r : Fin 32) (l : Fin 64) :
    (Rect.unit (s := S256x320) off S32x64.size inb).emb (ix2 r l) = ix2 (bandRow k r) ⟨256 + l.val, by omega⟩ := by
  subst hoff
  show (Rect.unit (s := S256x320) _ S32x64.size inb).toLoadRect.idx (ix2 r l) = _
  funext a
  fin_cases a
  · exact Fin.ext (by simp [Rect.unit, LoadRect.idx, bandRow, ix2])
  · exact Fin.ext (by simp [Rect.unit, LoadRect.idx, ix2])

theorem idxB (off : Fin 2 → ℕ) (inb : ∀ a, off a + S32x128.size a ≤ S256x128.size a)
    (hoff : off = ![32 * k.val, 0]) (r : Fin 32) (l : Fin 128) :
    (Rect.unit (s := S256x128) off S32x128.size inb).emb (ix2 r l) = ix2 (bandRow k r) l := by
  subst hoff
  show (Rect.unit (s := S256x128) _ S32x128.size inb).toLoadRect.idx (ix2 r l) = _
  funext a
  fin_cases a
  · exact Fin.ext (by simp [Rect.unit, LoadRect.idx, bandRow, ix2])
  · exact Fin.ext (by simp [Rect.unit, LoadRect.idx, ix2])

theorem packRd (h : PackOk c arg11 X_11) (p : Fin 1024) (n : Fin 128) (inb : ∀ a, (![0, 0] : Fin 2 → ℕ) a + S1024x128.size a ≤ S1024x128.size a) :
    View.readAt (Elt Ideal) arg11.view (Rect.unit (s := S1024x128) ![0, 0] S1024x128.size inb).toLoadRect X_11 (ix2 p n)
      = if p.val / 8 = n.val then ((2 ^ (p.val % 8) : ℕ) : EReal) else 0 := by
  unfold View.readAt
  have e : (Rect.unit (s := S1024x128) ![0, 0] S1024x128.size inb).toLoadRect.idx (ix2 p n) = ix2 p n := by
    funext a
    fin_cases a
    · exact Fin.ext (by simp [Rect.unit, LoadRect.idx, ix2])
    · exact Fin.ext (by simp [Rect.unit, LoadRect.idx, ix2])
  rw [e]
  exact h p n

theorem packRd' (h : PackOk c arg11 X_11) (p : Fin 512) (n : Fin 128) (inb : ∀ a, (![0, 0] : Fin 2 → ℕ) a + S512x128.size a ≤ S1024x128.size a) :
    View.readAt (Elt Ideal) arg11.view (Rect.unit (s := S1024x128) ![0, 0] S512x128.size inb).toLoadRect X_11 (ix2 p n)
      = if p.val / 8 = n.val then ((2 ^ (p.val % 8) : ℕ) : EReal) else 0 := by
  unfold View.readAt
  have e : (Rect.unit (s := S1024x128) ![0, 0] S512x128.size inb).toLoadRect.idx (ix2 p n) = ix2 (⟨p.val, by omega⟩ : Fin 1024) n := by
    funext a
    fin_cases a
    · exact Fin.ext (by simp [Rect.unit, LoadRect.idx, ix2])
    · exact Fin.ext (by simp [Rect.unit, LoadRect.idx, ix2])
  rw [e]
  exact h _ n

theorem piece8a (h : PackOk c arg11 X_11) (x : S32x128.Idx) :
    k0_pay48 (F := Ideal) (k0_pay47 (F := Ideal) (keepP (View.readAt (Elt Ideal) arg4.view (Rect.unit (s := S256x2560) (k0_off1 k) S32x256.size (k0_off1_inb k)).toLoadRect X_4)) (keepP (View.readAt (Elt Ideal) arg4.view (Rect.unit (s := S256x2560) (k0_off2 k) S32x256.size (k0_off2_inb k)).toLoadRect X_4)) (keepP (View.readAt (Elt Ideal) arg4.view (Rect.unit (s := S256x2560) (k0_off3 k) S32x256.size (k0_off3_inb k)).toLoadRect X_4)) (keepP (View.readAt (Elt Ideal) arg4.view (Rect.unit (s := S256x2560) (k0_off4 k) S32x256.size (k0_off4_inb k)).toLoadRect X_4)))
      (View.readAt (Elt Ideal) arg11.view (Rect.unit (s := S1024x128) ![0, 0] S1024x128.size inb_S1024x128_S1024x128_0_0).toLoadRect X_11) x
      = G8 c arg1 arg2 arg3 arg4 arg5 X_1 X_2 X_3 X_4 X_5 ((Rect.unit (s := S256x320) (k0_off11 k) S32x128.size (k0_off11_inb k)).emb x) := by
  obtain ⟨r, l, rfl⟩ : ∃ (r : Fin 32) (l : Fin 128), x = ix2 r l := ⟨x 0, x 1, by funext a; fin_cases a <;> rfl⟩
  rw [idxM128 k 0 (by norm_num) _ (k0_off11_inb k) (k0_off11_eq k)]
  refine (mask4 ((rowOf (arg1.view.read (Elt Ideal) X_1) (arg2.view.read (Elt Ideal) X_2) (arg3.view.read (Elt Ideal) X_3) (arg4.view.read (Elt Ideal) X_4) (arg5.view.read (Elt Ideal) X_5)) (bandRow k r)) r 0 (by norm_num) _ _ _ _
    (keepOk_rd c arg1 arg2 arg3 arg4 arg5 X_1 X_2 X_3 X_4 X_5 k 0 _ (k0_off1_inb k) (k0_off1_eq k) r) (keepOk_rd c arg1 arg2 arg3 arg4 arg5 X_1 X_2 X_3 X_4 X_5 k 1 _ (k0_off2_inb k) (k0_off2_eq k) r) (keepOk_rd c arg1 arg2 arg3 arg4 arg5 X_1 X_2 X_3 X_4 X_5 k 2 _ (k0_off3_inb k) (k0_off3_eq k) r) (keepOk_rd c arg1 arg2 arg3 arg4 arg5 X_1 X_2 X_3 X_4 X_5 k 3 _ (k0_off4_inb k) (k0_off4_eq k) r) _
    (fun p n => packRd c arg11 X_11 h p n _) l).trans ?_
  rfl

theorem piece8b (h : PackOk c arg11 X_11) (x : S32x128.Idx) :
    k0_pay48 (F := Ideal) (k0_pay47 (F := Ideal) (keepP (View.readAt (Elt Ideal) arg4.view (Rect.unit (s := S256x2560) (k0_off5 k) S32x256.size (k0_off5_inb k)).toLoadRect X_4)) (keepP (View.readAt (Elt Ideal) arg4.view (Rect.unit (s := S256x2560) (k0_off6 k) S32x256.size (k0_off6_inb k)).toLoadRect X_4)) (keepP (View.readAt (Elt Ideal) arg4.view (Rect.unit (s := S256x2560) (k0_off7 k) S32x256.size (k0_off7_inb k)).toLoadRect X_4)) (keepP (View.readAt (Elt Ideal) arg4.view (Rect.unit (s := S256x2560) (k0_off8 k) S32x256.size (k0_off8_inb k)).toLoadRect X_4)))
      (View.readAt (Elt Ideal) arg11.view (Rect.unit (s := S1024x128) ![0, 0] S1024x128.size inb_S1024x128_S1024x128_0_0).toLoadRect X_11) x
      = G8 c arg1 arg2 arg3 arg4 arg5 X_1 X_2 X_3 X_4 X_5 ((Rect.unit (s := S256x320) (k0_off12 k) S32x128.size (k0_off12_inb k)).emb x) := by
  obtain ⟨r, l, rfl⟩ : ∃ (r : Fin 32) (l : Fin 128), x = ix2 r l := ⟨x 0, x 1, by funext a; fin_cases a <;> rfl⟩
  rw [idxM128 k 128 (by norm_num) _ (k0_off12_inb k) (k0_off12_eq k)]
  refine (mask4 ((rowOf (arg1.view.read (Elt Ideal) X_1) (arg2.view.read (Elt Ideal) X_2) (arg3.view.read (Elt Ideal) X_3) (arg4.view.read (Elt Ideal) X_4) (arg5.view.read (Elt Ideal) X_5)) (bandRow k r)) r 4 (by norm_num) _ _ _ _
    (keepOk_rd c arg1 arg2 arg3 arg4 arg5 X_1 X_2 X_3 X_4 X_5 k 4 _ (k0_off5_inb k) (k0_off5_eq k) r) (keepOk_rd c arg1 arg2 arg3 arg4 arg5 X_1 X_2 X_3 X_4 X_5 k 5 _ (k0_off6_inb k) (k0_off6_eq k) r) (keepOk_rd c arg1 arg2 arg3 arg4 arg5 X_1 X_2 X_3 X_4 X_5 k 6 _ (k0_off7_inb k) (k0_off7_eq k) r) (keepOk_rd c arg1 arg2 arg3 arg4 arg5 X_1 X_2 X_3 X_4 X_5 k 7 _ (k0_off8_inb k) (k0_off8_eq k) r) _
    (fun p n => packRd c arg11 X_11 h p n _) l).trans ?_
  rfl

theorem piece8c (h : PackOk c arg11 X_11) (x : S32x64.Idx) :
    k0_pay50 (F := Ideal) (keepP (View.readAt (Elt Ideal) arg4.view (Rect.unit (s := S256x2560) (k0_off9 k) S32x256.size (k0_off9_inb k)).toLoadRect X_4)) (keepP (View.readAt (Elt Ideal) arg4.view (Rect.unit (s := S256x2560) (k0_off10 k) S32x256.size (k0_off10_inb k)).toLoadRect X_4))
      (View.readAt (Elt Ideal) arg11.view (Rect.unit (s := S1024x128) ![0, 0] S512x128.size inb_S1024x128_S512x128_0_0).toLoadRect X_11) x
      = G8 c arg1 arg2 arg3 arg4 arg5 X_1 X_2 X_3 X_4 X_5 ((Rect.unit (s := S256x320) (k0_off13 k) S32x64.size (k0_off13_inb k)).emb x) := by
  obtain ⟨r, l, rfl⟩ : ∃ (r : Fin 32) (l : Fin 64), x = ix2 r l := ⟨x 0, x 1, by funext a; fin_cases a <;> rfl⟩
  rw [idxM64 k _ (k0_off13_inb k) (k0_off13_eq k)]
  exact mask2 ((rowOf (arg1.view.read (Elt Ideal) X_1) (arg2.view.read (Elt Ideal) X_2) (arg3.view.read (Elt Ideal) X_3) (arg4.view.read (Elt Ideal) X_4) (arg5.view.read (Elt Ideal) X_5)) (bandRow k r)) r _ _
    (keepOk_rd c arg1 arg2 arg3 arg4 arg5 X_1 X_2 X_3 X_4 X_5 k 8 _ (k0_off9_inb k) (k0_off9_eq k) r) (keepOk_rd c arg1 arg2 arg3 arg4 arg5 X_1 X_2 X_3 X_4 X_5 k 9 _ (k0_off10_inb k) (k0_off10_eq k) r) _
    (fun p n => packRd' c arg11 X_11 h p n _) l

theorem H8_pieces (h : PackOk c arg11 X_11) : ∀ p ∈ trip.sl.H8_3 (F := Ideal) c arg4 arg11 X_4 X_11 k, ∀ x : p.1.shape.Idx, p.2 x = G8 c arg1 arg2 arg3 arg4 arg5 X_1 X_2 X_3 X_4 X_5 (p.1.emb x) :=
  List.forall_mem_cons.mpr ⟨piece8c c arg1 arg2 arg3 arg4 arg5 arg11 X_1 X_2 X_3 X_4 X_5 X_11 k h, List.forall_mem_cons.mpr ⟨piece8b c arg1 arg2 arg3 arg4 arg5 arg11 X_1 X_2 X_3 X_4 X_5 X_11 k h, List.forall_mem_cons.mpr ⟨piece8a c arg1 arg2 arg3 arg4 arg5 arg11 X_1 X_2 X_3 X_4 X_5 X_11 k h,
    List.forall_mem_nil _⟩⟩⟩

theorem H13_pieces : ∀ p ∈ trip.sl.H13_1 (F := Ideal) c arg1 arg2 arg3 arg4 arg5 arg10 X_1 X_2 X_3 X_4 X_5 k, ∀ x : p.1.shape.Idx, p.2 x = G13 c arg1 arg2 arg3 arg4 arg5 X_1 X_2 X_3 X_4 X_5 (p.1.emb x) := by
  refine List.forall_mem_cons.mpr ⟨?_, List.forall_mem_nil _⟩
  intro x
  obtain ⟨r, l, rfl⟩ : ∃ (r : Fin 32) (l : Fin 128), (show S32x128.Idx from x) = ix2 r l := ⟨x 0, x 1, by funext a; fin_cases a <;> rfl⟩
  refine Eq.trans ?_ (congrArg (G13 c arg1 arg2 arg3 arg4 arg5 X_1 X_2 X_3 X_4 X_5) (idxB k _ (k0_off14_inb k) (k0_off14_eq k) r l).symm)
  refine (scP_at _ (trip.sl.cst_206 (F := Ideal)) r l).trans ?_
  rw [show exP (trip.sl.r_39 (F := Ideal) c arg1 arg2 arg3 arg4 arg5 arg10 X_1 X_2 X_3 X_4 X_5 k) (trip.sl.cst_206 (F := Ideal)) (ix2 r 0) = _ from r_43_at c arg1 arg2 arg3 arg4 arg5 arg10 X_1 X_2 X_3 X_4 X_5 k r 0]
  rfl

theorem H14_pieces : ∀ p ∈ trip.sl.H14_1 (F := Ideal) c arg1 arg2 arg3 arg4 X_1 X_2 X_3 X_4 k, ∀ x : p.1.shape.Idx, p.2 x = G14 c arg1 arg2 arg3 arg4 arg5 X_1 X_2 X_3 X_4 X_5 (p.1.emb x) := by
  refine List.forall_mem_cons.mpr ⟨?_, List.forall_mem_nil _⟩
  intro x
  obtain ⟨r, l, rfl⟩ : ∃ (r : Fin 32) (l : Fin 128), (show S32x128.Idx from x) = ix2 r l := ⟨x 0, x 1, by funext a; fin_cases a <;> rfl⟩
  refine Eq.trans ?_ (congrArg (G14 c arg1 arg2 arg3 arg4 arg5 X_1 X_2 X_3 X_4 X_5) (idxB k _ (k0_off14_inb k) (k0_off14_eq k) r l).symm)
  refine (rsB_at (trip.sl.r_28 (F := Ideal) c arg1 arg2 arg3 arg4 X_1 X_2 X_3 X_4 k) r l).trans ?_
  exact r_31_at c arg1 arg2 arg3 arg4 arg5 X_1 X_2 X_3 X_4 X_5 k r 0

theorem H8_cover (y : S256x320.Idx) (h1 : 32 * k.val ≤ (y 0).val) (h2 : (y 0).val < 32 * (k.val + 1)) :
    ∃ p ∈ trip.sl.H8_3 (F := Ideal) c arg4 arg11 X_4 X_11 k, y ∈ p.1.set := by
  have hy : (y 1).val < 320 := (y 1).isLt
  have hc : (y 1).val < 128 ∨ 128 ≤ (y 1).val ∧ (y 1).val < 256 ∨ 256 ≤ (y 1).val := by omega
  rcases hc with h | h | h
  · refine ⟨_, .tail _ (.tail _ (.head _)), (Rect.mem_set_unit (inb := k0_off11_inb k)).mpr ?_⟩
    rw [k0_off11_eq]
    intro a
    fin_cases a
    · exact ⟨h1, by show (y 0).val < 32 * k.val + 32; omega⟩
    · exact ⟨Nat.zero_le _, by show (y 1).val < 0 + 128; omega⟩
  · refine ⟨_, .tail _ (.head _), (Rect.mem_set_unit (inb := k0_off12_inb k)).mpr ?_⟩
    rw [k0_off12_eq]
    intro a
    fin_cases a
    · exact ⟨h1, by show (y 0).val < 32 * k.val + 32; omega⟩
    · exact ⟨h.1, by show (y 1).val < 128 + 128; omega⟩
  · refine ⟨_, .head _, (Rect.mem_set_unit (inb := k0_off13_inb k)).mpr ?_⟩
    rw [k0_off13_eq]
    intro a
    fin_cases a
    · exact ⟨h1, by show (y 0).val < 32 * k.val + 32; omega⟩
    · exact ⟨h, by show (y 1).val < 256 + 64; omega⟩

theorem H8_miss (y : S256x320.Idx) (h : (y 0).val < 32 * k.val) : ∀ p ∈ trip.sl.H8_3 (F := Ideal) c arg4 arg11 X_4 X_11 k, y ∉ p.1.set := by
  refine List.forall_mem_cons.mpr ⟨?_, List.forall_mem_cons.mpr ⟨?_, List.forall_mem_cons.mpr ⟨?_, List.forall_mem_nil _⟩⟩⟩
  · intro hm
    have h0 := ((Rect.mem_set_unit (inb := k0_off13_inb k)).mp hm 0).1
    rw [k0_off13_eq] at h0
    have h' : 32 * k.val ≤ (y 0).val := h0
    omega
  · intro hm
    have h0 := ((Rect.mem_set_unit (inb := k0_off12_inb k)).mp hm 0).1
    rw [k0_off12_eq] at h0
    have h' : 32 * k.val ≤ (y 0).val := h0
    omega
  · intro hm
    have h0 := ((Rect.mem_set_unit (inb := k0_off11_inb k)).mp hm 0).1
    rw [k0_off11_eq] at h0
    have h' : 32 * k.val ≤ (y 0).val := h0
    omega

theorem H13_miss (y : S256x128.Idx) (h : (y 0).val < 32 * k.val) : ∀ p ∈ trip.sl.H13_1 (F := Ideal) c arg1 arg2 arg3 arg4 arg5 arg10 X_1 X_2 X_3 X_4 X_5 k, y ∉ p.1.set := by
  refine List.forall_mem_cons.mpr ⟨?_, List.forall_mem_nil _⟩
  · intro hm
    have h0 := ((Rect.mem_set_unit (inb := k0_off14_inb k)).mp hm 0).1
    rw [k0_off14_eq] at h0
    have h' : 32 * k.val ≤ (y 0).val := h0
    omega

theorem H14_miss (y : S256x128.Idx) (h : (y 0).val < 32 * k.val) : ∀ p ∈ trip.sl.H14_1 (F := Ideal) c arg1 arg2 arg3 arg4 X_1 X_2 X_3 X_4 k, y ∉ p.1.set := by
  refine List.forall_mem_cons.mpr ⟨?_, List.forall_mem_nil _⟩
  · intro hm
    have h0 := ((Rect.mem_set_unit (inb := k0_off14_inb k)).mp hm 0).1
    rw [k0_off14_eq] at h0
    have h' : 32 * k.val ≤ (y 0).val := h0
    omega

theorem H13_cover (y : S256x128.Idx) (h1 : 32 * k.val ≤ (y 0).val) (h2 : (y 0).val < 32 * (k.val + 1)) :
    ∃ p ∈ trip.sl.H13_1 (F := Ideal) c arg1 arg2 arg3 arg4 arg5 arg10 X_1 X_2 X_3 X_4 X_5 k, y ∈ p.1.set := by
  have hy : (y 1).val < 128 := (y 1).isLt
  refine ⟨_, .head _, (Rect.mem_set_unit (inb := k0_off14_inb k)).mpr ?_⟩
  rw [k0_off14_eq]
  intro a
  fin_cases a
  · exact ⟨h1, by show (y 0).val < 32 * k.val + 32; omega⟩
  · exact ⟨Nat.zero_le _, by show (y 1).val < 0 + 128; omega⟩

theorem H14_cover (y : S256x128.Idx) (h1 : 32 * k.val ≤ (y 0).val) (h2 : (y 0).val < 32 * (k.val + 1)) :
    ∃ p ∈ trip.sl.H14_1 (F := Ideal) c arg1 arg2 arg3 arg4 X_1 X_2 X_3 X_4 k, y ∈ p.1.set := by
  have hy : (y 1).val < 128 := (y 1).isLt
  refine ⟨_, .head _, (Rect.mem_set_unit (inb := k0_off14_inb k)).mpr ?_⟩
  rw [k0_off14_eq]
  intro a
  fin_cases a
  · exact ⟨h1, by show (y 0).val < 32 * k.val + 32; omega⟩
  · exact ⟨Nat.zero_le _, by show (y 1).val < 0 + 128; omega⟩

theorem trip_6 : (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k).1 = L6 c arg1 arg2 arg3 arg4 arg5 arg10 arg12 X_1 X_2 X_3 X_4 X_5 k := by
  unfold trip
  rfl

theorem pb6_read (f : BufTy.Contents (Elt Ideal) arg6.view.ty) : ∀ (n : ℕ) (hn : n ≤ k0_t1_loop.trips) (y : S256x2560.Idx) (h : (y 0).val < 32 * n),
    arg6.view.read (Elt Ideal) (arg6.view.writes (Elt Ideal) f (pb6 (F := Ideal) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n)) y = G6 c arg1 arg2 arg3 arg4 arg5 X_1 X_2 X_3 X_4 X_5 y
  | 0, _, y, h => absurd h (by omega)
  | n + 1, hn, y, h => by
    obtain ⟨k, hk⟩ : ∃ k : Fin k0_t1_loop.trips, k.val = n := ⟨⟨n, hn⟩, rfl⟩
    subst hk
    rw [pb6_succ, trip_6, View.writes_append]
    by_cases hlt : (y 0).val < 32 * k.val
    · rw [View.read_writes_apply_of_forall_not_mem]
      · exact pb6_read f k.val k.isLt.le y hlt
      · exact L6_miss c arg1 arg2 arg3 arg4 arg5 arg10 arg12 X_1 X_2 X_3 X_4 X_5 k y hlt
    · exact View.read_writes_apply_of_pieces _ _ (G6 c arg1 arg2 arg3 arg4 arg5 X_1 X_2 X_3 X_4 X_5) _ (L6_pieces c arg1 arg2 arg3 arg4 arg5 arg10 arg12 X_1 X_2 X_3 X_4 X_5 k) y (L6_cover c arg1 arg2 arg3 arg4 arg5 arg10 arg12 X_1 X_2 X_3 X_4 X_5 k y (Nat.le_of_not_lt hlt) h)

theorem trip_8 : (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k).2.1 = trip.sl.H8_3 (F := Ideal) c arg4 arg11 X_4 X_11 k := by
  unfold trip
  rfl

theorem pb8_read (hW : PackOk c arg11 X_11) (f : BufTy.Contents (Elt Ideal) arg8.view.ty) : ∀ (n : ℕ) (hn : n ≤ k0_t1_loop.trips) (y : S256x320.Idx) (h : (y 0).val < 32 * n),
    arg8.view.read (Elt Ideal) (arg8.view.writes (Elt Ideal) f (pb8 (F := Ideal) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n)) y = G8 c arg1 arg2 arg3 arg4 arg5 X_1 X_2 X_3 X_4 X_5 y
  | 0, _, y, h => absurd h (by omega)
  | n + 1, hn, y, h => by
    obtain ⟨k, hk⟩ : ∃ k : Fin k0_t1_loop.trips, k.val = n := ⟨⟨n, hn⟩, rfl⟩
    subst hk
    rw [pb8_succ, trip_8, View.writes_append]
    by_cases hlt : (y 0).val < 32 * k.val
    · rw [View.read_writes_apply_of_forall_not_mem]
      · exact pb8_read hW f k.val k.isLt.le y hlt
      · exact H8_miss c arg4 arg11 X_4 X_11 k y hlt
    · exact View.read_writes_apply_of_pieces _ _ (G8 c arg1 arg2 arg3 arg4 arg5 X_1 X_2 X_3 X_4 X_5) _ (H8_pieces c arg1 arg2 arg3 arg4 arg5 arg11 X_1 X_2 X_3 X_4 X_5 X_11 k hW) y (H8_cover c arg4 arg11 X_4 X_11 k y (Nat.le_of_not_lt hlt) h)

theorem trip_10 : (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k).2.2.1 = trip.sl.H10_10 (F := Ideal) c arg1 arg2 arg3 arg4 X_1 X_2 X_3 X_4 k := by
  unfold trip
  rfl

theorem pb10_read (f : BufTy.Contents (Elt Ideal) arg10.view.ty) : ∀ (n : ℕ) (hn : n ≤ k0_t1_loop.trips) (y : S256x2560.Idx) (h : (y 0).val < 32 * n),
    arg10.view.read (Elt Ideal) (arg10.view.writes (Elt Ideal) f (pb10 (F := Ideal) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n)) y = G10 c arg1 arg2 arg3 arg4 arg5 X_1 X_2 X_3 X_4 X_5 y
  | 0, _, y, h => absurd h (by omega)
  | n + 1, hn, y, h => by
    obtain ⟨k, hk⟩ : ∃ k : Fin k0_t1_loop.trips, k.val = n := ⟨⟨n, hn⟩, rfl⟩
    subst hk
    rw [pb10_succ, trip_10, View.writes_append]
    by_cases hlt : (y 0).val < 32 * k.val
    · rw [View.read_writes_apply_of_forall_not_mem]
      · exact pb10_read f k.val k.isLt.le y hlt
      · exact H10_miss c arg1 arg2 arg3 arg4 X_1 X_2 X_3 X_4 k y hlt
    · exact View.read_writes_apply_of_pieces _ _ (G10 c arg1 arg2 arg3 arg4 arg5 X_1 X_2 X_3 X_4 X_5) _ (H10_pieces c arg1 arg2 arg3 arg4 arg5 X_1 X_2 X_3 X_4 X_5 k) y (H10_cover c arg1 arg2 arg3 arg4 X_1 X_2 X_3 X_4 k y (Nat.le_of_not_lt hlt) h)

theorem trip_13 : (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k).2.2.2.2.1 = trip.sl.H13_1 (F := Ideal) c arg1 arg2 arg3 arg4 arg5 arg10 X_1 X_2 X_3 X_4 X_5 k := by
  unfold trip
  rfl

theorem pb13_read (f : BufTy.Contents (Elt Ideal) arg13.view.ty) : ∀ (n : ℕ) (hn : n ≤ k0_t1_loop.trips) (y : S256x128.Idx) (h : (y 0).val < 32 * n),
    arg13.view.read (Elt Ideal) (arg13.view.writes (Elt Ideal) f (pb13 (F := Ideal) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n)) y = G13 c arg1 arg2 arg3 arg4 arg5 X_1 X_2 X_3 X_4 X_5 y
  | 0, _, y, h => absurd h (by omega)
  | n + 1, hn, y, h => by
    obtain ⟨k, hk⟩ : ∃ k : Fin k0_t1_loop.trips, k.val = n := ⟨⟨n, hn⟩, rfl⟩
    subst hk
    rw [pb13_succ, trip_13, View.writes_append]
    by_cases hlt : (y 0).val < 32 * k.val
    · rw [View.read_writes_apply_of_forall_not_mem]
      · exact pb13_read f k.val k.isLt.le y hlt
      · exact H13_miss c arg1 arg2 arg3 arg4 arg5 arg10 X_1 X_2 X_3 X_4 X_5 k y hlt
    · exact View.read_writes_apply_of_pieces _ _ (G13 c arg1 arg2 arg3 arg4 arg5 X_1 X_2 X_3 X_4 X_5) _ (H13_pieces c arg1 arg2 arg3 arg4 arg5 arg10 X_1 X_2 X_3 X_4 X_5 k) y (H13_cover c arg1 arg2 arg3 arg4 arg5 arg10 X_1 X_2 X_3 X_4 X_5 k y (Nat.le_of_not_lt hlt) h)

theorem trip_14 : (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 k).2.2.2.2.2.1 = trip.sl.H14_1 (F := Ideal) c arg1 arg2 arg3 arg4 X_1 X_2 X_3 X_4 k := by
  unfold trip
  rfl

theorem pb14_read (f : BufTy.Contents (Elt Ideal) arg14.view.ty) : ∀ (n : ℕ) (hn : n ≤ k0_t1_loop.trips) (y : S256x128.Idx) (h : (y 0).val < 32 * n),
    arg14.view.read (Elt Ideal) (arg14.view.writes (Elt Ideal) f (pb14 (F := Ideal) c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 X_11 n)) y = G14 c arg1 arg2 arg3 arg4 arg5 X_1 X_2 X_3 X_4 X_5 y
  | 0, _, y, h => absurd h (by omega)
  | n + 1, hn, y, h => by
    obtain ⟨k, hk⟩ : ∃ k : Fin k0_t1_loop.trips, k.val = n := ⟨⟨n, hn⟩, rfl⟩
    subst hk
    rw [pb14_succ, trip_14, View.writes_append]
    by_cases hlt : (y 0).val < 32 * k.val
    · rw [View.read_writes_apply_of_forall_not_mem]
      · exact pb14_read f k.val k.isLt.le y hlt
      · exact H14_miss c arg1 arg2 arg3 arg4 X_1 X_2 X_3 X_4 k y hlt
    · exact View.read_writes_apply_of_pieces _ _ (G14 c arg1 arg2 arg3 arg4 arg5 X_1 X_2 X_3 X_4 X_5) _ (H14_pieces c arg1 arg2 arg3 arg4 arg5 X_1 X_2 X_3 X_4 X_5 k) y (H14_cover c arg1 arg2 arg3 arg4 X_1 X_2 X_3 X_4 k y (Nat.le_of_not_lt hlt) h)

end Block

end Cert.KernelIdeal.Hand

end
-- ==== Proof.KernelIdealEpi.lean ====
module

public import proofs.«01_k».proof.Proof.KernelIdealBlock

@[expose] public section

set_option maxRecDepth 16384

noncomputable section

namespace Cert.KernelIdeal.Hand

open Cert.KernelIdeal Cert.KernelIdeal.Gen Cert.Hand
open Idealize.ShloMosaic Idealize.ShloMosaic.TcCoe

/-- The batch row that a grid point's rows belong to, as the kernel computes it. -/
theorem diag_sum (n : Fin 128) (f : Fin 128 → EReal) :
    ∑ x : Fin 128, Scalar.select (IntOp.cmpi .eq (BitVec.ofNat 32 x.val) (BitVec.ofNat 32 n.val)) (f x) 0 = f n := by
  have h : ∀ x : Fin 128, Scalar.select (IntOp.cmpi .eq (BitVec.ofNat 32 x.val) (BitVec.ofNat 32 n.val)) (f x) 0 = if x = n then f x else 0 := fun x => by
    rw [sel_eq x.val n.val (by omega) (by omega)]
    simp only [Fin.ext_iff]
  rw [Finset.sum_congr rfl fun x _ => h x]
  simp

theorem pay102_at (w : BitVec 32) (b : ℕ) (hb : b < 12) (hw : w = BitVec.ofNat 32 b) (d : Vec Ideal S128x128 .f32) (o : Vec Ideal S12x128 .f32)
    (r : Fin 12) (n : Fin 128) :
    k0_pay102 k0_pay101 (iota .tc S12x128 32 [0] iota_S12x128_d0_w32) w d o (ix2 r n) = if r.val = b then d (ix2 n n) else o (ix2 r n) := by
  subst hw
  pointwise [k0_pay102, k0_pay101]
  refine (sel_eq r.val b (by omega) (by omega) _ _).trans ?_
  split
  · exact diag_sum n fun x => d (ix2 x n)
  · rfl

theorem pay103_at (w : BitVec 32) (b : ℕ) (hb : b < 12) (hw : w = BitVec.ofNat 32 b) (d : Vec Ideal S128x128 .f32) (o : Vec Ideal S12x128 .f32)
    (r : Fin 12) (n : Fin 128) :
    k0_pay103 k0_pay101 (iota .tc S12x128 32 [0] iota_S12x128_d0_w32) w d o (ix2 r n) = if r.val = b then d (ix2 n n) else o (ix2 r n) :=
  pay102_at w b hb hw d o r n

theorem pay2_at (w : BitVec 32) (b : ℕ) (hb : b < 12) (hw : w = BitVec.ofNat 32 b) (d : Vec Ideal S128x128 .f32) (o : Vec Ideal S12x128 .f32)
    (r : Fin 12) (n : Fin 128) :
    k0_pay2 k0_pay101 (iota .tc S12x128 32 [0] iota_S12x128_d0_w32) w d o (ix2 r n) = if r.val = b then d (ix2 n n) else o (ix2 r n) :=
  pay102_at w b hb hw d o r n

theorem pay1_at (w : BitVec 32) (b : ℕ) (hb : b < 12) (hw : w = BitVec.ofNat 32 b) (d : Vec Ideal S128x128 .f32) (o : Vec Ideal S12x128 .f32)
    (r : Fin 12) (n : Fin 128) :
    k0_pay1 (k0_pay104 k0_pay101 d) (k0_pay105 (iota .tc S12x128 32 [0] iota_S12x128_d0_w32) w) o (ix2 r n) = if r.val = b then d (ix2 n n) else o (ix2 r n) :=
  pay102_at w b hb hw d o r n

/-- A buffer of one value per row, with the 256 rows of grid point `t` set. -/
def resid (t : ℕ) (g : Fin 256 → EReal) (old : S12x1024.Idx → EReal) (y : S12x1024.Idx) : EReal :=
  if h : 256 * t ≤ 1024 * (y 0).val + (y 1).val ∧ 1024 * (y 0).val + (y 1).val < 256 * t + 256 then
    g ⟨1024 * (y 0).val + (y 1).val - 256 * t, by omega⟩ else old y

theorem resid_hit (t o : ℕ) (g : Fin 256 → EReal) (old : S12x1024.Idx → EReal) (r : Fin 12) (n : Fin 128) (ho : o + 128 ≤ 256) (hr : r.val = t / 4) :
    resid t g old (ix2 r ⟨256 * (t % 4) + o + n.val, by omega⟩) = g ⟨o + n.val, by omega⟩ := by
  have e : 1024 * r.val + (256 * (t % 4) + o + n.val) = 256 * t + (o + n.val) := by omega
  exact (dif_pos (c := 256 * t ≤ 1024 * r.val + (256 * (t % 4) + o + n.val) ∧ 1024 * r.val + (256 * (t % 4) + o + n.val) < 256 * t + 256)
    (by omega)).trans (congrArg g (Fin.ext (by show 1024 * r.val + (256 * (t % 4) + o + n.val) - 256 * t = o + n.val; omega)))

theorem resid_other (t o : ℕ) (g : Fin 256 → EReal) (old : S12x1024.Idx → EReal) (r : Fin 12) (n : Fin 128) (ho : o + 128 ≤ 256) (hr : ¬ r.val = t / 4) :
    resid t g old (ix2 r ⟨256 * (t % 4) + o + n.val, by omega⟩) = old (ix2 r ⟨256 * (t % 4) + o + n.val, by omega⟩) :=
  dif_neg (c := 256 * t ≤ 1024 * r.val + (256 * (t % 4) + o + n.val) ∧ 1024 * r.val + (256 * (t % 4) + o + n.val) < 256 * t + 256)
    (by omega)

theorem resid_miss (t : ℕ) (g : Fin 256 → EReal) (old : S12x1024.Idx → EReal) (y : S12x1024.Idx)
    (hy : ¬ (256 * (t % 4) ≤ (y 1).val ∧ (y 1).val < 256 * (t % 4) + 256)) : resid t g old y = old y :=
  dif_neg (by have h2 : (y 1).val < 1024 := (y 1).isLt; intro h; exact hy (by omega))

theorem idxE (t o : ℕ) (off : Fin 2 → ℕ) (inb : ∀ a, off a + S12x128.size a ≤ S12x1024.size a)
    (hoff : off = ![0, 256 * (t % 4) + o]) (ho : o + 128 ≤ 256) (r : Fin 12) (l : Fin 128) :
    (Rect.unit (s := S12x1024) off S12x128.size inb).emb (ix2 r l) = ix2 r ⟨256 * (t % 4) + o + l.val, by omega⟩ := by
  subst hoff
  show (Rect.unit (s := S12x1024) _ S12x128.size inb).toLoadRect.idx (ix2 r l) = _
  funext a
  fin_cases a
  · exact Fin.ext (by simp [Rect.unit, LoadRect.idx, ix2])
  · exact Fin.ext (by simp [Rect.unit, LoadRect.idx, ix2])

theorem mem_E (t o : ℕ) (off : Fin 2 → ℕ) (inb : ∀ a, off a + S12x128.size a ≤ S12x1024.size a)
    (hoff : off = ![0, 256 * (t % 4) + o]) (y : S12x1024.Idx) :
    y ∈ (Rect.unit (s := S12x1024) off S12x128.size inb).set ↔ 256 * (t % 4) + o ≤ (y 1).val ∧ (y 1).val < 256 * (t % 4) + o + 128 := by
  subst hoff
  rw [Rect.mem_set_unit]
  constructor
  · intro h; exact h 1
  · intro h a
    fin_cases a
    · exact ⟨Nat.zero_le _, by have := (y 0).isLt; show (y 0).val < 0 + 12; exact (by omega : _)⟩
    · exact h

theorem epi_read {κ : Kind} {sp : Space} (v : View sig κ sp S12x1024 .f32) (t : ℕ) (ht : t < 48) (g : Fin 256 → EReal) (f : BufTy.Contents (Elt Ideal) v.ty)
    (off0 : Fin 2 → ℕ) (inb0 : ∀ a, off0 a + S12x128.size a ≤ S12x1024.size a) (hoff0 : off0 = ![0, 256 * (t % 4) + 0])
    (off1 : Fin 2 → ℕ) (inb1 : ∀ a, off1 a + S12x128.size a ≤ S12x1024.size a) (hoff1 : off1 = ![0, 256 * (t % 4) + 128])
    (d0 d1 : S12x128.Idx → EReal)
    (h0 : ∀ (r : Fin 12) (n : Fin 128), d0 (ix2 r n) = if r.val = t / 4 then g ⟨n.val, by omega⟩ else v.read (Elt Ideal) f (ix2 r ⟨256 * (t % 4) + 0 + n.val, by omega⟩))
    (h1 : ∀ (r : Fin 12) (n : Fin 128), d1 (ix2 r n) = if r.val = t / 4 then g ⟨128 + n.val, by omega⟩ else v.read (Elt Ideal) f (ix2 r ⟨256 * (t % 4) + 128 + n.val, by omega⟩))
    (y : S12x1024.Idx) :
    v.read (Elt Ideal) (v.writes (Elt Ideal) f [⟨Rect.unit (s := S12x1024) off1 S12x128.size inb1, d1⟩, ⟨Rect.unit (s := S12x1024) off0 S12x128.size inb0, d0⟩]) y
      = resid t g (v.read (Elt Ideal) f) y := by
  by_cases hy : 256 * (t % 4) ≤ (y 1).val ∧ (y 1).val < 256 * (t % 4) + 256
  · refine View.read_writes_apply_of_pieces (Val := Elt Ideal) v f (resid t g (v.read (Elt Ideal) f)) _ ?_ y ?_
    · refine List.forall_mem_cons.mpr ⟨?_, List.forall_mem_cons.mpr ⟨?_, List.forall_mem_nil _⟩⟩
      · intro x
        obtain ⟨r, n, rfl⟩ : ∃ (r : Fin 12) (l : Fin 128), (show S12x128.Idx from x) = ix2 r l := ⟨x 0, x 1, by funext a; fin_cases a <;> rfl⟩
        refine Eq.trans ?_ (congrArg (resid t g (v.read (Elt Ideal) f)) (idxE t 128 off1 inb1 hoff1 (by omega) r n).symm)
        refine (h1 r n).trans ?_
        split
        · exact (resid_hit t 128 g _ r n (by omega) (by assumption)).symm
        · exact (resid_other t 128 g _ r n (by omega) (by assumption)).symm
      · intro x
        obtain ⟨r, n, rfl⟩ : ∃ (r : Fin 12) (l : Fin 128), (show S12x128.Idx from x) = ix2 r l := ⟨x 0, x 1, by funext a; fin_cases a <;> rfl⟩
        refine Eq.trans ?_ (congrArg (resid t g (v.read (Elt Ideal) f)) (idxE t 0 off0 inb0 hoff0 (by omega) r n).symm)
        refine (h0 r n).trans ?_
        split
        · exact ((resid_hit t 0 g _ r n (by omega) (by assumption)).trans (congrArg g (Fin.ext (by simp)))).symm
        · exact (resid_other t 0 g _ r n (by omega) (by assumption)).symm
    · by_cases hl : (y 1).val < 256 * (t % 4) + 128
      · exact ⟨_, .tail _ (.head _), (mem_E t 0 off0 inb0 hoff0 y).mpr ⟨hy.1, hl⟩⟩
      · exact ⟨_, .head _, (mem_E t 128 off1 inb1 hoff1 y).mpr ⟨Nat.le_of_not_lt hl, hy.2⟩⟩
  · rw [View.read_writes_apply_of_forall_not_mem]
    · exact (resid_miss t g _ y hy).symm
    · refine List.forall_mem_cons.mpr ⟨fun h => ?_, List.forall_mem_cons.mpr ⟨fun h => ?_, List.forall_mem_nil _⟩⟩
      · have h' := (mem_E t 128 off1 inb1 hoff1 y).mp h
        exact hy ⟨by omega, by omega⟩
      · have h' := (mem_E t 0 off0 inb0 hoff0 y).mp h
        exact hy ⟨by omega, by omega⟩

end Cert.KernelIdeal.Hand

end
-- ==== Proof.KernelIdealBody.lean ====
module

public import proofs.«01_k».proof.Proof.KernelIdealEpi

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem zeroFill {κ : Kind} {sp : Space} (v : View sig κ sp S12x1024 .f32) (f : BufTy.Contents (Elt Ideal) v.ty) (d : S12x1024.Idx → EReal)
    (hd : d = fun _ => 0) :
    v.read (Elt Ideal) (v.writes (Elt Ideal) f [⟨Rect.unit (s := S12x1024) ![0, 0] S12x1024.size inb_S12x1024_S12x1024_0_0, d⟩]) = fun _ => 0 := by
  subst hd
  funext y
  refine View.read_writes_apply_of_pieces (Val := Elt Ideal) v f (fun _ => (0 : EReal)) _ (List.forall_mem_cons.mpr ⟨fun _ => rfl, List.forall_mem_nil _⟩) y
    ⟨_, .head _, (Rect.mem_set_unit (inb := inb_S12x1024_S12x1024_0_0)).mpr fun a => ⟨?_, ?_⟩⟩
  · fin_cases a <;> exact Nat.zero_le _
  · fin_cases a
    · show (y 0).val < 0 + 12; have : (y 0).val < 12 := (y 0).isLt; omega
    · show (y 1).val < 0 + 1024; have : (y 1).val < 1024 := (y 1).isLt; omega

theorem pay99_zero : k0_pay99 (F := Ideal) = fun _ => 0 := by
  funext y
  idx_vars y
  pointwise [k0_pay99]

theorem fullWrite {κ : Kind} {sp : Space} (v : View sig κ sp S1024x128 .bf16) (f : BufTy.Contents (Elt Ideal) v.ty) (d : S1024x128.Idx → EReal)
    (p : Fin 1024) (n : Fin 128) :
    v.read (Elt Ideal) (v.writes (Elt Ideal) f [⟨Rect.unit (s := S1024x128) ![0, 0] S1024x128.size inb_S1024x128_S1024x128_0_0, d⟩]) (ix2 p n) = d (ix2 p n) := by
  refine View.read_writes_apply_of_pieces (Val := Elt Ideal) v f d _ (List.forall_mem_cons.mpr ⟨?_, List.forall_mem_nil _⟩) (ix2 p n)
    ⟨_, .head _, (Rect.mem_set_unit (inb := inb_S1024x128_S1024x128_0_0)).mpr fun a => ⟨?_, ?_⟩⟩
  · intro x
    refine congrArg d ?_
    show x = (Rect.unit (s := S1024x128) ![0, 0] S1024x128.size inb_S1024x128_S1024x128_0_0).toLoadRect.idx x
    funext a
    fin_cases a
    · exact Fin.ext (by simp [Rect.unit, LoadRect.idx])
    · exact Fin.ext (by simp [Rect.unit, LoadRect.idx])
  · fin_cases a <;> exact Nat.zero_le _
  · fin_cases a
    · show p.val < 0 + 1024; omega
    · show n.val < 0 + 128; omega

theorem packFill (c : Dev nD) (arg11 : Memref sig .tc .vmem S1024x128 .bf16) (f : BufTy.Contents (Elt Ideal) arg11.view.ty) :
    PackOk c arg11 (arg11.view.writes (Elt Ideal) f [⟨Rect.unit (s := S1024x128) ![0, 0] S1024x128.size inb_S1024x128_S1024x128_0_0, k0_pay98 (F := Ideal)⟩]) :=
  fun p n => (fullWrite arg11.view f _ p n).trans (pack_at p n)

theorem rdDiag {κ : Kind} {sp : Space} (v : View sig κ sp S256x128 .f32) (f : BufTy.Contents (Elt Ideal) v.ty) (o : ℕ) (ho : o + 128 ≤ 256)
    (inb : ∀ a, (![o, 0] : Fin 2 → ℕ) a + S128x128.size a ≤ S256x128.size a) (n : Fin 128) :
    View.readAt (Elt Ideal) v (Rect.unit (s := S256x128) ![o, 0] S128x128.size inb).toLoadRect f (ix2 n n)
      = v.read (Elt Ideal) f (ix2 (⟨o + n.val, by omega⟩ : Fin 256) n) := by
  unfold View.readAt
  refine congrArg (v.read (Elt Ideal) f) ?_
  funext a
  fin_cases a
  · exact Fin.ext (by simp [Rect.unit, LoadRect.idx, ix2])
  · exact Fin.ext (by simp [Rect.unit, LoadRect.idx, ix2])

theorem rdOld {κ : Kind} {sp : Space} (v : View sig κ sp S12x1024 .f32) (f : BufTy.Contents (Elt Ideal) v.ty) (t o : ℕ) (off : Fin 2 → ℕ)
    (inb : ∀ a, off a + S12x128.size a ≤ S12x1024.size a) (hoff : off = ![0, 256 * (t % 4) + o]) (ho : o + 128 ≤ 256) (r : Fin 12) (n : Fin 128) :
    View.readAt (Elt Ideal) v (Rect.unit (s := S12x1024) off S12x128.size inb).toLoadRect f (ix2 r n)
      = v.read (Elt Ideal) f (ix2 r ⟨256 * (t % 4) + o + n.val, by omega⟩) :=
  congrArg (v.read (Elt Ideal) f) (idxE t o off inb hoff ho r n)

theorem skipOne {κ : Kind} {sp : Space} (v : View sig κ sp S12x1024 .f32) (f : BufTy.Contents (Elt Ideal) v.ty) (L : List (View.Piece (Elt Ideal) S12x1024 .f32))
    (t : ℕ) (off : Fin 2 → ℕ) (inb : ∀ a, off a + S12x128.size a ≤ S12x1024.size a) (hoff : off = ![0, 256 * (t % 4) + 0]) (d : S12x128.Idx → EReal)
    (r : Fin 12) (n : Fin 128) :
    v.read (Elt Ideal) (v.writes (Elt Ideal) f (⟨Rect.unit (s := S12x1024) off S12x128.size inb, d⟩ :: L)) (ix2 r ⟨256 * (t % 4) + 128 + n.val, by omega⟩)
      = v.read (Elt Ideal) (v.writes (Elt Ideal) f L) (ix2 r ⟨256 * (t % 4) + 128 + n.val, by omega⟩) := by
  rw [show (⟨Rect.unit (s := S12x1024) off S12x128.size inb, d⟩ :: L : List (View.Piece (Elt Ideal) S12x1024 .f32))
    = [⟨Rect.unit (s := S12x1024) off S12x128.size inb, d⟩] ++ L from rfl, View.writes_append]
  refine View.read_writes_apply_of_forall_not_mem (Val := Elt Ideal) v _ _ _ (List.forall_mem_cons.mpr ⟨fun h => ?_, List.forall_mem_nil _⟩)
  have h' := ((mem_E t 0 off inb hoff _).mp h).2
  have h2 : 256 * (t % 4) + 128 + n.val < 256 * (t % 4) + 0 + 128 := h'
  omega

theorem ite_parts {p : Prop} [Decidable p] {a a' b b' : EReal} (ha : a = a') (hb : b = b') : (if p then a else b) = if p then a' else b' := by
  rw [ha, hb]

theorem first_iff : ∀ (i : grid0.Coords), (i 0).val = 0 → (Scalar.cmpi .ne (Scalar.extui (Scalar.cmpi .eq (BitVec.ofNat 32 (i 0).val) 0#32) : BitVec 32) 0#32) = 1#1 := by decide +kernel

theorem first_of : ∀ (i : grid0.Coords), (Scalar.cmpi .ne (Scalar.extui (Scalar.cmpi .eq (BitVec.ofNat 32 (i 0).val) 0#32) : BitVec 32) 0#32) = 1#1 → (i 0).val = 0 := by decide +kernel

set_option maxHeartbeats 0 in
/-- The body at one grid point: what it leaves in each buffer it writes. -/
theorem body (c : Dev nD) (i : grid0.Coords) (arg1 : Memref sig .tc .vmem S256x2560 .bf16) (harg1 : arg1.IsWhole) (arg2 : Memref sig .tc .vmem S256x2560 .bf16) (harg2 : arg2.IsWhole) (arg3 : Memref sig .tc .vmem S1x2560 .f32) (harg3 : arg3.IsWhole) (arg4 : Memref sig .tc .vmem S256x2560 .i32) (harg4 : arg4.IsWhole) (arg5 : Memref sig .tc .vmem S1x2560 .f32) (harg5 : arg5.IsWhole) (arg6 : Memref sig .tc .vmem S256x2560 .fp8e4m3) (harg6 : arg6.IsWhole) (arg7 : Memref sig .tc .vmem S12x1024 .f32) (harg7 : arg7.IsWhole) (arg8 : Memref sig .tc .vmem S256x320 .i8) (harg8 : arg8.IsWhole) (arg9 : Memref sig .tc .vmem S12x1024 .f32) (harg9 : arg9.IsWhole) (arg10 : Memref sig .tc .vmem S256x2560 .bf16) (harg10 : arg10.IsWhole) (arg11 : Memref sig .tc .vmem S1024x128 .bf16) (harg11 : arg11.IsWhole) (arg12 : Memref sig .tc .vmem S32x2560 .f32) (harg12 : arg12.IsWhole) (arg13 : Memref sig .tc .vmem S256x128 .f32) (harg13 : arg13.IsWhole) (arg14 : Memref sig .tc .vmem S256x128 .f32) (harg14 : arg14.IsWhole)  (X_1 : Buf (Elt Ideal) (arg1.view.loc (c : Thread nD τ))) (X_2 : Buf (Elt Ideal) (arg2.view.loc (c : Thread nD τ))) (X_3 : Buf (Elt Ideal) (arg3.view.loc (c : Thread nD τ))) (X_4 : Buf (Elt Ideal) (arg4.view.loc (c : Thread nD τ))) (X_5 : Buf (Elt Ideal) (arg5.view.loc (c : Thread nD τ))) (X_6 : Buf (Elt Ideal) (arg6.view.loc (c : Thread nD τ))) (X_7 : Buf (Elt Ideal) (arg7.view.loc (c : Thread nD τ))) (X_8 : Buf (Elt Ideal) (arg8.view.loc (c : Thread nD τ))) (X_9 : Buf (Elt Ideal) (arg9.view.loc (c : Thread nD τ))) (X_10 : Buf (Elt Ideal) (arg10.view.loc (c : Thread nD τ))) (X_11 : Buf (Elt Ideal) (arg11.view.loc (c : Thread nD τ))) (X_12 : Buf (Elt Ideal) (arg12.view.loc (c : Thread nD τ))) (X_13 : Buf (Elt Ideal) (arg13.view.loc (c : Thread nD τ))) (X_14 : Buf (Elt Ideal) (arg14.view.loc (c : Thread nD τ))) (W : Waits sig Unit) (K : PUnit → sProp 𝕄)
    (hpk : (i 0).val = 0 ∨ PackOk c arg11 X_11) :
  iprop((arg1.view.loc (c : Thread nD τ) ↦[arg1.view.set]{fullShare} X_1)
      ∗ (arg2.view.loc (c : Thread nD τ) ↦[arg2.view.set]{fullShare} X_2)
      ∗ (arg3.view.loc (c : Thread nD τ) ↦[arg3.view.set]{fullShare} X_3)
      ∗ (arg4.view.loc (c : Thread nD τ) ↦[arg4.view.set]{fullShare} X_4)
      ∗ (arg5.view.loc (c : Thread nD τ) ↦[arg5.view.set]{fullShare} X_5)
      ∗ (arg6.view.loc (c : Thread nD τ) ↦[arg6.view.set]{fullShare} X_6)
      ∗ (arg7.view.loc (c : Thread nD τ) ↦[arg7.view.set]{fullShare} X_7)
      ∗ (arg8.view.loc (c : Thread nD τ) ↦[arg8.view.set]{fullShare} X_8)
      ∗ (arg9.view.loc (c : Thread nD τ) ↦[arg9.view.set]{fullShare} X_9)
      ∗ (arg10.view.loc (c : Thread nD τ) ↦[arg10.view.set]{fullShare} X_10)
      ∗ (arg11.view.loc (c : Thread nD τ) ↦[arg11.view.set]{fullShare} X_11)
      ∗ (arg12.view.loc (c : Thread nD τ) ↦[arg12.view.set]{fullShare} X_12)
      ∗ (arg13.view.loc (c : Thread nD τ) ↦[arg13.view.set]{fullShare} X_13)
      ∗ (arg14.view.loc (c : Thread nD τ) ↦[arg14.view.set]{fullShare} X_14)
      ∗ owes (c : Thread nD τ) 0 W ∗ (iprop((arg1.view.loc (c : Thread nD τ) ↦[arg1.view.set]{fullShare} X_1)
      ∗ (arg2.view.loc (c : Thread nD τ) ↦[arg2.view.set]{fullShare} X_2)
      ∗ (arg3.view.loc (c : Thread nD τ) ↦[arg3.view.set]{fullShare} X_3)
      ∗ (arg4.view.loc (c : Thread nD τ) ↦[arg4.view.set]{fullShare} X_4)
      ∗ (arg5.view.loc (c : Thread nD τ) ↦[arg5.view.set]{fullShare} X_5)
      ∗ (∃ f, ⌜∀ y, arg6.view.read (Elt Ideal) f y = G6 c arg1 arg2 arg3 arg4 arg5 X_1 X_2 X_3 X_4 X_5 y⌝ ∗ (arg6.view.loc (c : Thread nD τ) ↦[arg6.view.set]{fullShare} f))
      ∗ (∃ f, ⌜∀ y, arg7.view.read (Elt Ideal) f y = resid (i 0).val (fun p => (rowOf (arg1.view.read (Elt Ideal) X_1) (arg2.view.read (Elt Ideal) X_2) (arg3.view.read (Elt Ideal) X_3) (arg4.view.read (Elt Ideal) X_4) (arg5.view.read (Elt Ideal) X_5) p).scK) (if (i 0).val = 0 then fun _ => 0 else arg7.view.read (Elt Ideal) X_7) y⌝ ∗ (arg7.view.loc (c : Thread nD τ) ↦[arg7.view.set]{fullShare} f))
      ∗ (∃ f, ⌜∀ y, arg8.view.read (Elt Ideal) f y = G8 c arg1 arg2 arg3 arg4 arg5 X_1 X_2 X_3 X_4 X_5 y⌝ ∗ (arg8.view.loc (c : Thread nD τ) ↦[arg8.view.set]{fullShare} f))
      ∗ (∃ f, ⌜∀ y, arg9.view.read (Elt Ideal) f y = resid (i 0).val (fun p => (rowOf (arg1.view.read (Elt Ideal) X_1) (arg2.view.read (Elt Ideal) X_2) (arg3.view.read (Elt Ideal) X_3) (arg4.view.read (Elt Ideal) X_4) (arg5.view.read (Elt Ideal) X_5) p).rs) (if (i 0).val = 0 then fun _ => 0 else arg9.view.read (Elt Ideal) X_9) y⌝ ∗ (arg9.view.loc (c : Thread nD τ) ↦[arg9.view.set]{fullShare} f))
      ∗ (∃ f, ⌜∀ y, arg10.view.read (Elt Ideal) f y = G10 c arg1 arg2 arg3 arg4 arg5 X_1 X_2 X_3 X_4 X_5 y⌝ ∗ (arg10.view.loc (c : Thread nD τ) ↦[arg10.view.set]{fullShare} f))
      ∗ (∃ f, ⌜PackOk c arg11 f⌝ ∗ (arg11.view.loc (c : Thread nD τ) ↦[arg11.view.set]{fullShare} f))
      ∗ (∃ f, (arg12.view.loc (c : Thread nD τ) ↦[arg12.view.set]{fullShare} f))
      ∗ (∃ f, (arg13.view.loc (c : Thread nD τ) ↦[arg13.view.set]{fullShare} f))
      ∗ (∃ f, (arg14.view.loc (c : Thread nD τ) ↦[arg14.view.set]{fullShare} f)) ∗ (∃ W', owes (c : Thread nD τ) 0 W')) -∗ K ⟨⟩))
     ⊢ wp frame (wpE (defs₀ (F := Ideal)) Variants.none (c : Thread nD τ) none) Set.univ
          (cc0_bias_dropout_add_rmsnorm_fp8 (F := Ideal) i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨H1, H2, H3, H4, H5, H6, H7, H8, H9, H10, H11, H12, H13, H14, HW, Hk⟩
  by_cases hz : (Scalar.cmpi .ne (Scalar.extui (Scalar.cmpi .eq (BitVec.ofNat 32 (i 0).val) 0#32) : BitVec 32) 0#32) = 1#1
  · unfold cc0_bias_dropout_add_rmsnorm_fp8
    sl_exec_parts
    sl_step
    have hi0 : (i 0).val = 0 := first_of i hz
    have hv : ∀ i : grid0.Coords, body.sl.v24 i = BitVec.ofNat 32 ((i 0).val / 4) := by decide +kernel
    have HP := packFill c arg11 arg11.view.junk
    iapply Hk
    isplitl [H1]; · iexact H1
    isplitl [H2]; · iexact H2
    isplitl [H3]; · iexact H3
    isplitl [H4]; · iexact H4
    isplitl [H5]; · iexact H5
    isplitl [H6]
    · iexists _; isplitr; swap; (iexact H6)
      ipureintro
      exact fun y => pb6_read c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 _ _ _ (Nat.le_refl _) y (y 0).isLt
    isplitl [H7]
    · iexists _; isplitr; swap; (iexact H7)
      ipureintro
      intro y
      rw [if_pos hi0]
      refine Eq.trans ?_ (congrArg (fun o => resid (i 0).val (fun p => (rowOf (arg1.view.read (Elt Ideal) X_1) (arg2.view.read (Elt Ideal) X_2) (arg3.view.read (Elt Ideal) X_3) (arg4.view.read (Elt Ideal) X_4) (arg5.view.read (Elt Ideal) X_5) p).scK) o y) (show arg7.view.read (Elt Ideal) (arg7.view.writes (Elt Ideal) arg7.view.junk [⟨Rect.unit (s := S12x1024) ![0, 0] S12x1024.size inb_S12x1024_S12x1024_0_0, k0_pay99 (F := Ideal)⟩]) = _ from zeroFill _ _ (k0_pay99 (F := Ideal)) pay99_zero))
      refine epi_read arg7.view (i 0).val (i 0).isLt _ (arg7.view.writes (Elt Ideal) arg7.view.junk [⟨Rect.unit (s := S12x1024) ![0, 0] S12x1024.size inb_S12x1024_S12x1024_0_0, k0_pay99 (F := Ideal)⟩]) _ (k0_off15_inb i 0) (k0_off15_0_eq i) _ (k0_off15_inb i 1) (k0_off15_128_eq i) _ _ ?_ ?_ y
      · intro r n
        refine (pay102_at _ ((i 0).val / 4) (by have := (i 0).isLt; have : (i 0).val < 48 := this; omega) (hv i) _ _ r n).trans (ite_parts ?_ ?_)
        · refine (rdDiag arg13.view _ 0 (by omega) _ n).trans ((pb13_read c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 _ _ _ (Nat.le_refl _) _ ?_).trans ?_)
          · show 0 + n.val < 256; omega
          · unfold G13; exact congrArg (fun p => (rowOf (arg1.view.read (Elt Ideal) X_1) (arg2.view.read (Elt Ideal) X_2) (arg3.view.read (Elt Ideal) X_3) (arg4.view.read (Elt Ideal) X_4) (arg5.view.read (Elt Ideal) X_5) p).scK) (Fin.ext (by show 0 + n.val = _; simp))
        · exact (rdOld arg7.view _ (i 0).val 0 _ (k0_off15_inb i 0) (k0_off15_0_eq i) (by omega) r n)
      · intro r n
        refine (pay1_at _ ((i 0).val / 4) (by have := (i 0).isLt; have : (i 0).val < 48 := this; omega) (hv i) _ _ r n).trans (ite_parts ?_ ?_)
        · refine (rdDiag arg13.view _ 128 (by omega) _ n).trans ((pb13_read c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 _ _ _ (Nat.le_refl _) _ ?_).trans ?_)
          · show 128 + n.val < 256; omega
          · unfold G13; exact congrArg (fun p => (rowOf (arg1.view.read (Elt Ideal) X_1) (arg2.view.read (Elt Ideal) X_2) (arg3.view.read (Elt Ideal) X_3) (arg4.view.read (Elt Ideal) X_4) (arg5.view.read (Elt Ideal) X_5) p).scK) (Fin.ext (by show 128 + n.val = _; simp))
        · exact (rdOld arg7.view _ (i 0).val 128 _ (k0_off15_inb i 1) (k0_off15_128_eq i) (by omega) r n).trans (skipOne arg7.view _ _ (i 0).val _ (k0_off15_inb i 0) (k0_off15_0_eq i) _ r n)
    isplitl [H8]
    · iexists _; isplitr; swap; (iexact H8)
      ipureintro
      exact fun y => pb8_read c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 _ HP _ _ (Nat.le_refl _) y (y 0).isLt
    isplitl [H9]
    · iexists _; isplitr; swap; (iexact H9)
      ipureintro
      intro y
      rw [if_pos hi0]
      refine Eq.trans ?_ (congrArg (fun o => resid (i 0).val (fun p => (rowOf (arg1.view.read (Elt Ideal) X_1) (arg2.view.read (Elt Ideal) X_2) (arg3.view.read (Elt Ideal) X_3) (arg4.view.read (Elt Ideal) X_4) (arg5.view.read (Elt Ideal) X_5) p).rs) o y) (show arg9.view.read (Elt Ideal) (arg9.view.writes (Elt Ideal) arg9.view.junk [⟨Rect.unit (s := S12x1024) ![0, 0] S12x1024.size inb_S12x1024_S12x1024_0_0, k0_pay99 (F := Ideal)⟩]) = _ from zeroFill _ _ (k0_pay99 (F := Ideal)) pay99_zero))
      refine epi_read arg9.view (i 0).val (i 0).isLt _ (arg9.view.writes (Elt Ideal) arg9.view.junk [⟨Rect.unit (s := S12x1024) ![0, 0] S12x1024.size inb_S12x1024_S12x1024_0_0, k0_pay99 (F := Ideal)⟩]) _ (k0_off15_inb i 0) (k0_off15_0_eq i) _ (k0_off15_inb i 1) (k0_off15_128_eq i) _ _ ?_ ?_ y
      · intro r n
        refine (pay103_at _ ((i 0).val / 4) (by have := (i 0).isLt; have : (i 0).val < 48 := this; omega) (hv i) _ _ r n).trans (ite_parts ?_ ?_)
        · refine (rdDiag arg14.view _ 0 (by omega) _ n).trans ((pb14_read c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 _ _ _ (Nat.le_refl _) _ ?_).trans ?_)
          · show 0 + n.val < 256; omega
          · unfold G14; exact congrArg (fun p => (rowOf (arg1.view.read (Elt Ideal) X_1) (arg2.view.read (Elt Ideal) X_2) (arg3.view.read (Elt Ideal) X_3) (arg4.view.read (Elt Ideal) X_4) (arg5.view.read (Elt Ideal) X_5) p).rs) (Fin.ext (by show 0 + n.val = _; simp))
        · exact (rdOld arg9.view _ (i 0).val 0 _ (k0_off15_inb i 0) (k0_off15_0_eq i) (by omega) r n)
      · intro r n
        refine (pay2_at _ ((i 0).val / 4) (by have := (i 0).isLt; have : (i 0).val < 48 := this; omega) (hv i) _ _ r n).trans (ite_parts ?_ ?_)
        · refine (rdDiag arg14.view _ 128 (by omega) _ n).trans ((pb14_read c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 _ _ _ (Nat.le_refl _) _ ?_).trans ?_)
          · show 128 + n.val < 256; omega
          · unfold G14; exact congrArg (fun p => (rowOf (arg1.view.read (Elt Ideal) X_1) (arg2.view.read (Elt Ideal) X_2) (arg3.view.read (Elt Ideal) X_3) (arg4.view.read (Elt Ideal) X_4) (arg5.view.read (Elt Ideal) X_5) p).rs) (Fin.ext (by show 128 + n.val = _; simp))
        · exact (rdOld arg9.view _ (i 0).val 128 _ (k0_off15_inb i 1) (k0_off15_128_eq i) (by omega) r n).trans (skipOne arg9.view _ _ (i 0).val _ (k0_off15_inb i 0) (k0_off15_0_eq i) _ r n)
    isplitl [H10]
    · iexists _; isplitr; swap; (iexact H10)
      ipureintro
      exact fun y => pb10_read c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 _ _ _ (Nat.le_refl _) y (y 0).isLt
    isplitl [H11]
    · iexists _; isplitr; swap; (iexact H11)
      ipureintro
      exact HP
    isplitl [H12]; · iexists _; iexact H12
    isplitl [H13]; · iexists _; iexact H13
    isplitl [H14]; · iexists _; iexact H14
    iexists _; iexact HW
  · unfold cc0_bias_dropout_add_rmsnorm_fp8
    sl_exec_parts
    sl_step
    have hi0 : ¬ (i 0).val = 0 := fun h => hz (first_iff i h)
    have hv : ∀ i : grid0.Coords, body.sl.v24_1 i = BitVec.ofNat 32 ((i 0).val / 4) := by decide +kernel
    have HP := hpk.resolve_left hi0
    iapply Hk
    isplitl [H1]; · iexact H1
    isplitl [H2]; · iexact H2
    isplitl [H3]; · iexact H3
    isplitl [H4]; · iexact H4
    isplitl [H5]; · iexact H5
    isplitl [H6]
    · iexists _; isplitr; swap; (iexact H6)
      ipureintro
      exact fun y => pb6_read c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 _ _ _ (Nat.le_refl _) y (y 0).isLt
    isplitl [H7]
    · iexists _; isplitr; swap; (iexact H7)
      ipureintro
      intro y
      rw [if_neg hi0]
      refine epi_read arg7.view (i 0).val (i 0).isLt _ X_7 _ (k0_off15_inb i 0) (k0_off15_0_eq i) _ (k0_off15_inb i 1) (k0_off15_128_eq i) _ _ ?_ ?_ y
      · intro r n
        refine (pay102_at _ ((i 0).val / 4) (by have := (i 0).isLt; have : (i 0).val < 48 := this; omega) (hv i) _ _ r n).trans (ite_parts ?_ ?_)
        · refine (rdDiag arg13.view _ 0 (by omega) _ n).trans ((pb13_read c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 _ _ _ (Nat.le_refl _) _ ?_).trans ?_)
          · show 0 + n.val < 256; omega
          · unfold G13; exact congrArg (fun p => (rowOf (arg1.view.read (Elt Ideal) X_1) (arg2.view.read (Elt Ideal) X_2) (arg3.view.read (Elt Ideal) X_3) (arg4.view.read (Elt Ideal) X_4) (arg5.view.read (Elt Ideal) X_5) p).scK) (Fin.ext (by show 0 + n.val = _; simp))
        · exact (rdOld arg7.view _ (i 0).val 0 _ (k0_off15_inb i 0) (k0_off15_0_eq i) (by omega) r n)
      · intro r n
        refine (pay1_at _ ((i 0).val / 4) (by have := (i 0).isLt; have : (i 0).val < 48 := this; omega) (hv i) _ _ r n).trans (ite_parts ?_ ?_)
        · refine (rdDiag arg13.view _ 128 (by omega) _ n).trans ((pb13_read c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 _ _ _ (Nat.le_refl _) _ ?_).trans ?_)
          · show 128 + n.val < 256; omega
          · unfold G13; exact congrArg (fun p => (rowOf (arg1.view.read (Elt Ideal) X_1) (arg2.view.read (Elt Ideal) X_2) (arg3.view.read (Elt Ideal) X_3) (arg4.view.read (Elt Ideal) X_4) (arg5.view.read (Elt Ideal) X_5) p).scK) (Fin.ext (by show 128 + n.val = _; simp))
        · exact (rdOld arg7.view _ (i 0).val 128 _ (k0_off15_inb i 1) (k0_off15_128_eq i) (by omega) r n)
    isplitl [H8]
    · iexists _; isplitr; swap; (iexact H8)
      ipureintro
      exact fun y => pb8_read c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 _ HP _ _ (Nat.le_refl _) y (y 0).isLt
    isplitl [H9]
    · iexists _; isplitr; swap; (iexact H9)
      ipureintro
      intro y
      rw [if_neg hi0]
      refine epi_read arg9.view (i 0).val (i 0).isLt _ X_9 _ (k0_off15_inb i 0) (k0_off15_0_eq i) _ (k0_off15_inb i 1) (k0_off15_128_eq i) _ _ ?_ ?_ y
      · intro r n
        refine (pay103_at _ ((i 0).val / 4) (by have := (i 0).isLt; have : (i 0).val < 48 := this; omega) (hv i) _ _ r n).trans (ite_parts ?_ ?_)
        · refine (rdDiag arg14.view _ 0 (by omega) _ n).trans ((pb14_read c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 _ _ _ (Nat.le_refl _) _ ?_).trans ?_)
          · show 0 + n.val < 256; omega
          · unfold G14; exact congrArg (fun p => (rowOf (arg1.view.read (Elt Ideal) X_1) (arg2.view.read (Elt Ideal) X_2) (arg3.view.read (Elt Ideal) X_3) (arg4.view.read (Elt Ideal) X_4) (arg5.view.read (Elt Ideal) X_5) p).rs) (Fin.ext (by show 0 + n.val = _; simp))
        · exact (rdOld arg9.view _ (i 0).val 0 _ (k0_off15_inb i 0) (k0_off15_0_eq i) (by omega) r n)
      · intro r n
        refine (pay2_at _ ((i 0).val / 4) (by have := (i 0).isLt; have : (i 0).val < 48 := this; omega) (hv i) _ _ r n).trans (ite_parts ?_ ?_)
        · refine (rdDiag arg14.view _ 128 (by omega) _ n).trans ((pb14_read c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 _ _ _ (Nat.le_refl _) _ ?_).trans ?_)
          · show 128 + n.val < 256; omega
          · unfold G14; exact congrArg (fun p => (rowOf (arg1.view.read (Elt Ideal) X_1) (arg2.view.read (Elt Ideal) X_2) (arg3.view.read (Elt Ideal) X_3) (arg4.view.read (Elt Ideal) X_4) (arg5.view.read (Elt Ideal) X_5) p).rs) (Fin.ext (by show 128 + n.val = _; simp))
        · exact (rdOld arg9.view _ (i 0).val 128 _ (k0_off15_inb i 1) (k0_off15_128_eq i) (by omega) r n)
    isplitl [H10]
    · iexists _; isplitr; swap; (iexact H10)
      ipureintro
      exact fun y => pb10_read c i arg1 harg1 arg2 harg2 arg3 harg3 arg4 harg4 arg5 harg5 arg6 harg6 arg7 harg7 arg8 harg8 arg9 harg9 arg10 harg10 arg11 harg11 arg12 harg12 arg13 harg13 arg14 harg14 X_1 X_2 X_3 X_4 X_5 _ _ _ (Nat.le_refl _) y (y 0).isLt
    isplitl [H11]
    · iexists _; isplitr; swap; (iexact H11)
      ipureintro
      exact HP
    isplitl [H12]; · iexists _; iexact H12
    isplitl [H13]; · iexists _; iexact H13
    isplitl [H14]; · iexists _; iexact H14
    iexists _; iexact HW

end Cert.KernelIdeal.Hand

end
-- ==== Proof.KernelIdealRun.lean ====
module

public import proofs.«01_k».proof.Proof.KernelIdealBody

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The inputs of row `p` of the block at point `t`. -/
def blkRow (c : Dev nD) (t : Fin cfg0.N) : Fin 256 → RowIn :=
  rowOf (iblk m c 0 t) (iblk m c 1 t) (iblk m c 2 t) (iblk m c 3 t) (iblk m c 4 t)

theorem N48 : cfg0.N = 48 := N_0

/-- The per-row results of the rows before point `n`, and zero elsewhere. -/
def flatVal (c : Dev nD) (g : RowIn → EReal) (n : ℕ) (y : S12x1024.Idx) : EReal :=
  if 1024 * (y 0).val + (y 1).val < 256 * n then
    g (blkRow m c ⟨(1024 * (y 0).val + (y 1).val) / 256, by
      have h0 : (y 0).val < 12 := (y 0).isLt
      have h1 : (y 1).val < 1024 := (y 1).isLt
      rw [N48]; omega⟩ ⟨(1024 * (y 0).val + (y 1).val) % 256, by omega⟩)
  else 0

theorem flatVal_zero (c : Dev nD) (g : RowIn → EReal) : flatVal m c g 0 = fun _ => 0 := by
  funext y
  exact if_neg (by omega)

theorem flatVal_succ (c : Dev nD) (g : RowIn → EReal) (t : Fin cfg0.N) (y : S12x1024.Idx) :
    resid t.val (fun p => g (blkRow m c t p)) (flatVal m c g t.val) y = flatVal m c g (t.val + 1) y := by
  unfold resid
  split
  · rename_i h
    unfold flatVal
    rw [if_pos (by omega)]
    refine congrArg g (congrArg₂ (blkRow m c) (Fin.ext ?_) (Fin.ext ?_))
    · show t.val = (1024 * (y 0).val + (y 1).val) / 256; omega
    · show 1024 * (y 0).val + (y 1).val - 256 * t.val = (1024 * (y 0).val + (y 1).val) % 256; omega
  · rename_i h
    unfold flatVal
    by_cases h2 : 1024 * (y 0).val + (y 1).val < 256 * t.val
    · rw [if_pos h2, if_pos (by omega)]
    · rw [if_neg h2, if_neg (by omega)]

/-- What the body carries in its scratch buffers before point `n`: the pack weights from the second point on. -/
def carry (c : Dev nD) (n : ℕ) : sProp 𝕄 :=
  iprop(((∃ f : Buf (Elt Ideal) ((c : Thread nD τ).loc cc0_scratch0), ⌜n = 0 ∨ PackOk c (Memref.whole cc0_scratch0) f⌝ ∗ ((c : Thread nD τ).loc cc0_scratch0) ↦{fullShare} f)
      ∗ (∃ f : Buf (Elt Ideal) ((c : Thread nD τ).loc cc0_scratch1), ((c : Thread nD τ).loc cc0_scratch1) ↦{fullShare} f)
      ∗ (∃ f : Buf (Elt Ideal) ((c : Thread nD τ).loc cc0_scratch2), ((c : Thread nD τ).loc cc0_scratch2) ↦{fullShare} f)
      ∗ (∃ f : Buf (Elt Ideal) ((c : Thread nD τ).loc cc0_scratch3), ((c : Thread nD τ).loc cc0_scratch3) ↦{fullShare} f)) ∗ ∃ r, prngReg c r)

/-- The proof data: what each window holds after each point. -/
def dats (_ : Fin 1) (c : Dev nD) : Dat τ (Elt Ideal) Unit ℕ (UR sig nD τ) ℕ cfg0 c where
  A w := V m c (Pipeline.arrRef spec0 w)
  after w := match w with
    | 0 => fun t => iblk m c 0 t
    | 1 => fun t => iblk m c 1 t
    | 2 => fun t => iblk m c 2 t
    | 3 => fun t => iblk m c 3 t
    | 4 => fun t => iblk m c 4 t
    | 5 => fun t (y : S256x2560.Idx) => (blkRow m c t (y 0)).codeK (y 1)
    | 6 => fun t => flatVal m c RowIn.scK (t.val + 1)
    | 7 => fun t (y : S256x320.Idx) => (blkRow m c t (y 0)).mask (y 1)
    | 8 => fun t => flatVal m c RowIn.rs (t.val + 1)
    | 9 => fun t (y : S256x2560.Idx) => (blkRow m c t (y 0)).h (y 1)
  Φ t := carry c t.val
  q _ := fullShare
  owed _ := 0

theorem coord_val (t : Fin cfg0.N) : ((grid0.coords t) 0).val = t.val := by
  have h := Pipeline.Grid.coords_val (G := grid0) t 0 (S := 1) (B := 48) (by decide) rfl
  have h2 : t.val < 48 := N48 ▸ t.isLt
  rw [h]
  omega

theorem before_6 (c : Dev nD) (t : Fin cfg0.N) (ht : t.val ≠ 0) (d) : (dats m 0 c).before 6 t d = flatVal m c RowIn.scK t.val := by
  rw [Dat.before_of_pos (dats m 0 c) 6 t ht rfl d]
  have hf : (cfg0.win 6).flush ⟨t.val - 1, Nat.lt_of_le_of_lt (Nat.sub_le _ _) t.isLt⟩ = false := by
    rw [Bool.eq_false_iff]
    intro h
    have h1 := (flush0_6 _).mp h
    have h2 : (t.val - 1) % 48 = 47 := h1
    have h3 : t.val < 48 := N48 ▸ t.isLt
    omega
  rw [hf, if_neg Bool.false_ne_true]
  show flatVal m c RowIn.scK (t.val - 1 + 1) = _
  rw [Nat.sub_add_cancel (Nat.pos_of_ne_zero ht)]

theorem before_8 (c : Dev nD) (t : Fin cfg0.N) (ht : t.val ≠ 0) (d) : (dats m 0 c).before 8 t d = flatVal m c RowIn.rs t.val := by
  rw [Dat.before_of_pos (dats m 0 c) 8 t ht rfl d]
  have hf : (cfg0.win 8).flush ⟨t.val - 1, Nat.lt_of_le_of_lt (Nat.sub_le _ _) t.isLt⟩ = false := by
    rw [Bool.eq_false_iff]
    intro h
    have h1 := (flush0_8 _).mp h
    have h2 : (t.val - 1) % 48 = 47 := h1
    have h3 : t.val < 48 := N48 ▸ t.isLt
    omega
  rw [hf, if_neg Bool.false_ne_true]
  show flatVal m c RowIn.rs (t.val - 1 + 1) = _
  rw [Nat.sub_add_cancel (Nat.pos_of_ne_zero ht)]

theorem rows_eq (c : Dev nD) (t : Fin cfg0.N) (x1 x2 : S256x2560.Idx → EReal) (x3 : S1x2560.Idx → EReal) (x4 : S256x2560.Idx → BitVec 32) (x5 : S1x2560.Idx → EReal)
    (e1 : x1 = iblk m c 0 t) (e2 : x2 = iblk m c 1 t) (e3 : x3 = iblk m c 2 t) (e4 : x4 = iblk m c 3 t) (e5 : x5 = iblk m c 4 t) :
    rowOf x1 x2 x3 x4 x5 = blkRow m c t := by
  subst e1 e2 e3 e4 e5
  rfl

theorem accum (c : Dev nD) (t : Fin cfg0.N) (g : RowIn → EReal) (R : Fin 256 → RowIn) (hrow : R = blkRow m c t) (n : ℕ) (old new : S12x1024.Idx → EReal)
    (hn : n = t.val) (hold : t.val ≠ 0 → old = flatVal m c g t.val)
    (h : ∀ y, new y = resid n (fun p => g (R p)) (if n = 0 then fun _ => 0 else old) y) : new = flatVal m c g (t.val + 1) := by
  subst hn hrow
  funext y
  rw [h y, ← flatVal_succ]
  by_cases h0 : t.val = 0
  · rw [if_pos h0, h0, flatVal_zero]
  · rw [if_neg h0, hold h0]

set_option maxHeartbeats 4000000 in
theorem sound (c : Dev nD) (t : Fin cfg0.N) :
    iprop(carry c t.val ∗ (dats m 0 c).owesAt () t.castSucc ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d))
      ∗ (∃ d, owns (c : Thread nD τ) (win0_7.stage (cfg0.slots t 7)) fullShare ((dats m 0 c).before 7 t d))
      ∗ (∃ d, owns (c : Thread nD τ) (win0_8.stage (cfg0.slots t 8)) fullShare ((dats m 0 c).before 8 t d))
      ∗ (∃ d, owns (c : Thread nD τ) (win0_9.stage (cfg0.slots t 9)) fullShare ((dats m 0 c).before 9 t d)))
      ⊢ wp frame (wpE (defs₀ (F := Ideal)) Variants.none c none) Set.univ (bodyAt0 t)
          (fun _ => iprop(carry c (t.val + 1) ∗ (dats m 0 c).owesAt () t.succ ∗ owns (c : Thread nD τ) (win0_0.stage (cfg0.slots t 0)) fullShare ((dats m 0 c).after 0 t)
      ∗ owns (c : Thread nD τ) (win0_1.stage (cfg0.slots t 1)) fullShare ((dats m 0 c).after 1 t)
      ∗ owns (c : Thread nD τ) (win0_2.stage (cfg0.slots t 2)) fullShare ((dats m 0 c).after 2 t)
      ∗ owns (c : Thread nD τ) (win0_3.stage (cfg0.slots t 3)) fullShare ((dats m 0 c).after 3 t)
      ∗ owns (c : Thread nD τ) (win0_4.stage (cfg0.slots t 4)) fullShare ((dats m 0 c).after 4 t)
      ∗ owns (c : Thread nD τ) (win0_5.stage (cfg0.slots t 5)) fullShare ((dats m 0 c).after 5 t)
      ∗ owns (c : Thread nD τ) (win0_6.stage (cfg0.slots t 6)) fullShare ((dats m 0 c).after 6 t)
      ∗ owns (c : Thread nD τ) (win0_7.stage (cfg0.slots t 7)) fullShare ((dats m 0 c).after 7 t)
      ∗ owns (c : Thread nD τ) (win0_8.stage (cfg0.slots t 8)) fullShare ((dats m 0 c).after 8 t)
      ∗ owns (c : Thread nD τ) (win0_9.stage (cfg0.slots t 9)) fullShare ((dats m 0 c).after 9 t))) := by
  unfold bodyAt0 carry Dat.owesAt Pipeline.owesWithin
  rw [show (dats m 0 c).owed t.castSucc = 0 from rfl, show (dats m 0 c).owed t.succ = 0 from rfl]
  unfold owns
  iintro ⟨⟨⟨⟨%g11, %hp, H11⟩, ⟨%g12, H12⟩, ⟨%g13, H13⟩, ⟨%g14, H14⟩⟩, Hg⟩, ⟨%W, -, HW⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩, ⟨%d8, %g8, %e8, H8⟩, ⟨%d9, %g9, %e9, H9⟩, ⟨%d10, %g10, %e10, H10⟩⟩
  replace e1 := e1.trans (before0_0_of m (dats m 0 c) rfl (fun _ => rfl) t d1)
  replace e2 := e2.trans (before0_1_of m (dats m 0 c) rfl (fun _ => rfl) t d2)
  replace e3 := e3.trans (before0_2_of m (dats m 0 c) rfl (fun _ => rfl) t d3)
  replace e4 := e4.trans (before0_3_of m (dats m 0 c) rfl (fun _ => rfl) t d4)
  replace e5 := e5.trans (before0_4_of m (dats m 0 c) rfl (fun _ => rfl) t d5)
  have hrow := rows_eq m c t _ _ _ _ _ e1 e2 e3 e4 e5
  iapply (body c (grid0.coords t) _ _ _ _ _ _ _ _ _ _ _ _ _ _ _ _ _ _ _ _ _ _ _ _ _ _ _ _ g1 g2 g3 g4 g5 g6 g7 g8 g9 g10 g11 g12 g13 g14 W _ (by rw [coord_val]; exact hp))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · simp only [View.set_whole]; iexact H11
  isplitl [H12]; · simp only [View.set_whole]; iexact H12
  isplitl [H13]; · simp only [View.set_whole]; iexact H13
  isplitl [H14]; · simp only [View.set_whole]; iexact H14
  isplitl [HW]; · iexact HW
  iintro ⟨H1, H2, H3, H4, H5, ⟨%f6, %e6, H6⟩, ⟨%f7, %e7', H7⟩, ⟨%f8, %e8, H8⟩, ⟨%f9, %e9', H9⟩, ⟨%f10, %e10, H10⟩, ⟨%f11, %e11, H11⟩, ⟨%f12, H12⟩, ⟨%f13, H13⟩, ⟨%f14, H14⟩, ⟨%W', HW'⟩⟩
  isplitl [H11 H12 H13 H14 Hg]
  · isplitl [H11 H12 H13 H14]
    · isplitl [H11]
      · iexists f11
        isplitr
        · ipureintro; exact Or.inr e11
        simp only [View.set_whole]; iexact H11
      isplitl [H12]; · iexists f12; simp only [View.set_whole]; iexact H12
      isplitl [H13]; · iexists f13; simp only [View.set_whole]; iexact H13
      iexists f14; simp only [View.set_whole]; iexact H14
    iexact Hg
  isplitl [HW']
  · iexists W'; isplitr; · ipureintro; exact fun _ _ => Or.inl trivial
    iexact HW'

  isplitl [H1]; · iexists _; isplitr; swap; (iexact H1); ipureintro; exact e1
  isplitl [H2]; · iexists _; isplitr; swap; (iexact H2); ipureintro; exact e2
  isplitl [H3]; · iexists _; isplitr; swap; (iexact H3); ipureintro; exact e3
  isplitl [H4]; · iexists _; isplitr; swap; (iexact H4); ipureintro; exact e4
  isplitl [H5]; · iexists _; isplitr; swap; (iexact H5); ipureintro; exact e5
  isplitl [H6]
  · iexists _; isplitr; swap; (iexact H6); ipureintro
    exact funext fun y => (e6 y).trans (congrArg (fun R : Fin 256 → RowIn => (R (y 0)).codeK (y 1)) hrow)
  isplitl [H7]
  · iexists _; isplitr; swap; (iexact H7); ipureintro
    exact accum m c t RowIn.scK _ hrow _ _ _ (coord_val t) (fun h => e7.trans (before_6 m c t h d7)) e7'
  isplitl [H8]
  · iexists _; isplitr; swap; (iexact H8); ipureintro
    exact funext fun y => (e8 y).trans (congrArg (fun R : Fin 256 → RowIn => (R (y 0)).mask (y 1)) hrow)
  isplitl [H9]
  · iexists _; isplitr; swap; (iexact H9); ipureintro
    exact accum m c t RowIn.rs _ hrow _ _ _ (coord_val t) (fun h => e9.trans (before_8 m c t h d9)) e9'
  iexists _; isplitr; swap; (iexact H10); ipureintro
  exact funext fun y => (e10 y).trans (congrArg (fun R : Fin 256 → RowIn => (R (y 0)).h (y 1)) hrow)
theorem obligation (c : Dev nD) :
    Pipeline.BodyObligationLoose (dats m 0 c) (defs₀ (F := Ideal)) Variants.none () Set.univ := fun t => by
  rw [bigSep_W0, bigSep_W0]
  exact triple_restated (sound m c t) rfl .rfl fun _ => .rfl

end Cert.KernelIdeal.Hand

end
-- ==== Proof.KernelIdealFinal.lean ====
module

public import proofs.«01_k».proof.Proof.KernelIdealRun
public import Idealize.ShloMosaic.Lib.Pipeline.ValueKit

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

local notation "𝕄" => MT nD τ sig Unit (Elt Ideal) ℕ (UR sig nD τ) ℕ

variable (m : (ℓ : Loc nD τ sig) → Buf (Elt Ideal) ℓ) (ρ : Dev nD → PrngReg)

/-! The blocks that a point finds, from the arguments. -/

theorem index_facts : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![0, 0]
    ∧ win0_7.index t = ![t.val, 0] ∧ win0_8.index t = ![0, 0] ∧ win0_9.index t = ![t.val, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![0, 0]
    ∧ win0_7.index t = ![t.val, 0] ∧ win0_8.index t = ![0, 0] ∧ win0_9.index t = ![t.val, 0])

/-- The inputs of row `b`, `s`. -/
def row (c : Dev nD) (b : Fin 12) (s : Fin 1024) : RowIn where
  x j := m ((c.tc : Thread nD τ).loc main_arg0) (ix3 b s j)
  a j := m ((c.tc : Thread nD τ).loc main_arg1) (ix3 b s j)
  b j := m ((c.tc : Thread nD τ).loc main_arg2) (ix1 j)
  w j := m ((c.tc : Thread nD τ).loc main_arg3) (ix3 b s j)
  g j := m ((c.tc : Thread nD τ).loc main_arg4) (ix1 j)

/-- The row a row of a flattened array comes from. -/
abbrev rowAt (c : Dev nD) (n : Fin 12288) : RowIn := row m c ⟨n.val / 1024, by omega⟩ ⟨n.val % 1024, by omega⟩

theorem blk0_at (c : Dev nD) (t : Fin cfg0.N) (p : Fin 256) (j : Fin 2560) (h : 256 * t.val + p.val < 12288) : iblk m c 0 t (ix2 p j) =
    m ((c.tc : Thread nD τ).loc main_arg0) (ix3 ⟨(256 * t.val + p.val) / 1024, by omega⟩ ⟨(256 * t.val + p.val) % 1024, by omega⟩ j) := by
  have e1 : iblk m c 0 t (ix2 p j) = V m c main_v0 (ix2 ⟨256 * t.val + p.val, h⟩ j) := by
    blk_ext [iblk, (index_facts t).1]
  rw [e1]
  entry_read
  pointwise

theorem blk1_at (c : Dev nD) (t : Fin cfg0.N) (p : Fin 256) (j : Fin 2560) (h : 256 * t.val + p.val < 12288) : iblk m c 1 t (ix2 p j) =
    m ((c.tc : Thread nD τ).loc main_arg1) (ix3 ⟨(256 * t.val + p.val) / 1024, by omega⟩ ⟨(256 * t.val + p.val) % 1024, by omega⟩ j) := by
  have e1 : iblk m c 1 t (ix2 p j) = V m c main_v1 (ix2 ⟨256 * t.val + p.val, h⟩ j) := by
    blk_ext [iblk, (index_facts t).2.1]
  rw [e1]
  entry_read
  pointwise

theorem blk3_at (c : Dev nD) (t : Fin cfg0.N) (p : Fin 256) (j : Fin 2560) (h : 256 * t.val + p.val < 12288) : iblk m c 3 t (ix2 p j) =
    m ((c.tc : Thread nD τ).loc main_arg3) (ix3 ⟨(256 * t.val + p.val) / 1024, by omega⟩ ⟨(256 * t.val + p.val) % 1024, by omega⟩ j) := by
  have e1 : iblk m c 3 t (ix2 p j) = V m c main_v3 (ix2 ⟨256 * t.val + p.val, h⟩ j) := by
    blk_ext [iblk, (index_facts t).2.2.2.1]
  rw [e1]
  entry_read
  pointwise

theorem blk2_at (c : Dev nD) (t : Fin cfg0.N) (j : Fin 2560) : iblk m c 2 t (ix2 0 j) = m ((c.tc : Thread nD τ).loc main_arg2) (ix1 j) := by
  have e1 : iblk m c 2 t (ix2 0 j) = V m c main_v2 (ix2 0 j) := by
    blk_ext [iblk, (index_facts t).2.2.1]
  rw [e1]
  entry_read
  pointwise

theorem blk4_at (c : Dev nD) (t : Fin cfg0.N) (j : Fin 2560) : iblk m c 4 t (ix2 0 j) = m ((c.tc : Thread nD τ).loc main_arg4) (ix1 j) := by
  have e1 : iblk m c 4 t (ix2 0 j) = V m c main_v4 (ix2 0 j) := by
    blk_ext [iblk, (index_facts t).2.2.2.2.1]
  rw [e1]
  entry_read
  pointwise

theorem row_ext {R S : RowIn} (hx : ∀ j, R.x j = S.x j) (ha : ∀ j, R.a j = S.a j) (hb : ∀ j, R.b j = S.b j) (hw : ∀ j, R.w j = S.w j)
    (hg : ∀ j, R.g j = S.g j) : R = S := by
  obtain ⟨x, a, b, w, g⟩ := R
  obtain ⟨x', a', b', w', g'⟩ := S
  obtain rfl : x = x' := funext hx
  obtain rfl : a = a' := funext ha
  obtain rfl : b = b' := funext hb
  obtain rfl : w = w' := funext hw
  obtain rfl : g = g' := funext hg
  rfl

theorem blkRow_eq (c : Dev nD) (t : Fin cfg0.N) (p : Fin 256) (b : Fin 12) (s : Fin 1024) (h : 256 * t.val + p.val = 1024 * b.val + s.val) :
    blkRow m c t p = row m c b s := by
  have h1 : 256 * t.val + p.val < 12288 := by omega
  have hb : (⟨(256 * t.val + p.val) / 1024, by omega⟩ : Fin 12) = b := Fin.ext (by show _ / _ = _; omega)
  have hs : (⟨(256 * t.val + p.val) % 1024, by omega⟩ : Fin 1024) = s := Fin.ext (by show _ % _ = _; omega)
  refine row_ext (fun j => ?_) (fun j => ?_) (fun j => ?_) (fun j => ?_) (fun j => ?_)
  · exact (blk0_at m c t p j h1).trans (by rw [hb, hs]; rfl)
  · exact (blk1_at m c t p j h1).trans (by rw [hb, hs]; rfl)
  · exact blk2_at m c t j
  · exact (blk3_at m c t p j h1).trans (by rw [hb, hs]; rfl)
  · exact blk4_at m c t j

theorem codes_eq (c : Dev nD) : (dats m 0 c).arrAt 5 cfg0.N = fun y : S12288x2560.Idx => (rowAt m c (y 0)).codeK (y 1) := by
  refine (dats m 0 c).arrAt_eq_of_covers 5 _ (by decide +kernel) fun t hf y => ?_
  have e0 : ((((cfg0.win 5).blk t).view.emb y) 0).val = t.val * 256 + (y 0).val := by
    blk_simp [(index_facts t).2.2.2.2.2.1]
  have e1 : ((((cfg0.win 5).blk t).view.emb y) 1).val = (y 1).val := by
    blk_simp [(index_facts t).2.2.2.2.2.1]
  have hy0 : (y 0).val < 256 := (y 0).isLt
  show (blkRow m c t ⟨(y 0).val, _⟩).codeK ⟨(y 1).val, _⟩ = (rowAt m c ((((cfg0.win 5).blk t).view.emb y) 0)).codeK ((((cfg0.win 5).blk t).view.emb y) 1)
  rw [blkRow_eq m c t _ ⟨((((cfg0.win 5).blk t).view.emb y) 0).val / 1024, by have ht : t.val < 48 := lt_of_lt_of_eq t.isLt N48; omega⟩ ⟨((((cfg0.win 5).blk t).view.emb y) 0).val % 1024, by omega⟩
    (by show 256 * t.val + (y 0).val = 1024 * (_ / 1024) + _ % 1024; omega)]
  exact congrArg (RowIn.codeK _) (Fin.ext e1.symm)

theorem mask_eq (c : Dev nD) : (dats m 0 c).arrAt 7 cfg0.N = fun y : S12288x320.Idx => (rowAt m c (y 0)).mask (y 1) := by
  refine (dats m 0 c).arrAt_eq_of_covers 7 _ (by decide +kernel) fun t hf y => ?_
  have e0 : ((((cfg0.win 7).blk t).view.emb y) 0).val = t.val * 256 + (y 0).val := by
    blk_simp [(index_facts t).2.2.2.2.2.2.2.1]
  have e1 : ((((cfg0.win 7).blk t).view.emb y) 1).val = (y 1).val := by
    blk_simp [(index_facts t).2.2.2.2.2.2.2.1]
  have hy0 : (y 0).val < 256 := (y 0).isLt
  show (blkRow m c t ⟨(y 0).val, _⟩).mask ⟨(y 1).val, _⟩ = (rowAt m c ((((cfg0.win 7).blk t).view.emb y) 0)).mask ((((cfg0.win 7).blk t).view.emb y) 1)
  rw [blkRow_eq m c t _ ⟨((((cfg0.win 7).blk t).view.emb y) 0).val / 1024, by have ht : t.val < 48 := lt_of_lt_of_eq t.isLt N48; omega⟩ ⟨((((cfg0.win 7).blk t).view.emb y) 0).val % 1024, by omega⟩
    (by show 256 * t.val + (y 0).val = 1024 * (_ / 1024) + _ % 1024; omega)]
  exact congrArg (RowIn.mask _) (Fin.ext e1.symm)

theorem h_eq (c : Dev nD) : (dats m 0 c).arrAt 9 cfg0.N = fun y : S12288x2560.Idx => (rowAt m c (y 0)).h (y 1) := by
  refine (dats m 0 c).arrAt_eq_of_covers 9 _ (by decide +kernel) fun t hf y => ?_
  have e0 : ((((cfg0.win 9).blk t).view.emb y) 0).val = t.val * 256 + (y 0).val := by
    blk_simp [(index_facts t).2.2.2.2.2.2.2.2.2]
  have e1 : ((((cfg0.win 9).blk t).view.emb y) 1).val = (y 1).val := by
    blk_simp [(index_facts t).2.2.2.2.2.2.2.2.2]
  have hy0 : (y 0).val < 256 := (y 0).isLt
  show (blkRow m c t ⟨(y 0).val, _⟩).h ⟨(y 1).val, _⟩ = (rowAt m c ((((cfg0.win 9).blk t).view.emb y) 0)).h ((((cfg0.win 9).blk t).view.emb y) 1)
  rw [blkRow_eq m c t _ ⟨((((cfg0.win 9).blk t).view.emb y) 0).val / 1024, by have ht : t.val < 48 := lt_of_lt_of_eq t.isLt N48; omega⟩ ⟨((((cfg0.win 9).blk t).view.emb y) 0).val % 1024, by omega⟩
    (by show 256 * t.val + (y 0).val = 1024 * (_ / 1024) + _ % 1024; omega)]
  exact congrArg (RowIn.h _) (Fin.ext e1.symm)

theorem flat_end (c : Dev nD) (g : RowIn → EReal) (y : S12x1024.Idx) : flatVal m c g 48 y = g (row m c (y 0) (y 1)) := by
  have h0 : (y 0).val < 12 := (y 0).isLt
  have h1 : (y 1).val < 1024 := (y 1).isLt
  unfold flatVal
  rw [if_pos (by omega)]
  refine congrArg g (blkRow_eq m c _ _ _ _ ?_)
  show 256 * ((1024 * (y 0).val + (y 1).val) / 256) + (1024 * (y 0).val + (y 1).val) % 256 = 1024 * (y 0).val + (y 1).val
  omega

theorem scales_eq (c : Dev nD) : (dats m 0 c).arrAt 6 cfg0.N = fun y : S12x1024.Idx => (row m c (y 0) (y 1)).scK := by
  refine (dats m 0 c).arrAt_eq_of_after_last 6 ⟨47, by rw [N48]; decide⟩ (by decide +kernel) _ fun j => ?_
  exact flat_end m c RowIn.scK j

theorem rstd_eq (c : Dev nD) : (dats m 0 c).arrAt 8 cfg0.N = fun y : S12x1024.Idx => (row m c (y 0) (y 1)).rs := by
  refine (dats m 0 c).arrAt_eq_of_after_last 8 ⟨47, by rw [N48]; decide⟩ (by decide +kernel) _ fun j => ?_
  exact flat_end m c RowIn.rs j

/-! The run. -/

theorem enter (c : Dev nD) : (Pipeline.ΦA (Val := Elt Ideal) (U := UR sig nD τ) spec0 c : sProp 𝕄) ⊢ carry c 0 := by
  unfold Pipeline.ΦA carry
  rw [scopedRest0_eq]
  iintro ⟨⟨⟨%f1, H1⟩, H2, H3, H4⟩, Hr⟩
  isplitl [H1 H2 H3 H4]
  · isplitl [H1]
    · iexists f1
      isplitr; · ipureintro; exact Or.inl rfl
      iexact H1
    isplitl [H2]; · iexact H2
    isplitl [H3]; · iexact H3
    iexact H4
  iexact Hr

theorem leave (c : Dev nD) (n : ℕ) : carry c n ⊢ (Pipeline.ΦA (Val := Elt Ideal) (U := UR sig nD τ) spec0 c : sProp 𝕄) := by
  unfold Pipeline.ΦA carry
  rw [scopedRest0_eq]
  iintro ⟨⟨⟨%f1, %h1, H1⟩, H2, H3, H4⟩, Hr⟩
  isplitl [H1 H2 H3 H4]
  · isplitl [H1]
    · iexists f1
      iexact H1
    isplitl [H2]; · iexact H2
    isplitl [H3]; · iexact H3
    iexact H4
  iexact Hr

set_option backward.isDefEq.respectTransparency.types false in
/-- The program runs, its results are the rows' results, and its argument arrays end unchanged, and every semaphore counter ends at
    zero. -/
theorem run_quiescent : θ_run defs (onTc (τ := τ) (main (F := Ideal))) ⟨m, fun _ => 0, ρ⟩ (fun r => (∀ c : Dev nD,
      r.2.mem ((c.tc : Thread nD τ).loc main_v5_0) = (fun y : S12288x2560.Idx => (rowAt m c (y 0)).codeK (y 1))
      ∧ r.2.mem ((c.tc : Thread nD τ).loc main_v5_1) = (fun y : S12x1024.Idx => (row m c (y 0) (y 1)).scK)
      ∧ r.2.mem ((c.tc : Thread nD τ).loc main_v5_2) = (fun y : S12288x320.Idx => (rowAt m c (y 0)).mask (y 1))
      ∧ r.2.mem ((c.tc : Thread nD τ).loc main_v5_3) = (fun y : S12x1024.Idx => (row m c (y 0) (y 1)).rs)
      ∧ r.2.mem ((c.tc : Thread nD τ).loc main_v5_4) = (fun y : S12288x2560.Idx => (rowAt m c (y 0)).h (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_track (Q' := _) cfgs (dats m) (0 : Fin 1) launch0 defs₀ Variants.none m ρ main
    (hbody := obligation m) (hshare := fun c => (dats m 0 c).share_full fun _ => rfl)
    (howed := fun _ _ => rfl) (V := V m) (hmain := hmain m Variants.none) (hA := fun _ _ => rfl) (hin := fun c => enter c) (hout := fun c => leave c _)
    (hQ' := fun _ h => ⟨fun c => ⟨((h.1 c).1 5).trans (codes_eq m c), ((h.1 c).1 6).trans (scales_eq m c), ((h.1 c).1 7).trans (mask_eq m c),
      ((h.1 c).1 8).trans (rstd_eq m c), ((h.1 c).1 9).trans (h_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)

/-- `run_quiescent` without the counters. -/
theorem run : θ_run defs (onTc (τ := τ) (main (F := Ideal))) ⟨m, fun _ => 0, ρ⟩ (fun r => ∀ c : Dev nD,
      r.2.mem ((c.tc : Thread nD τ).loc main_v5_0) = (fun y : S12288x2560.Idx => (rowAt m c (y 0)).codeK (y 1))
      ∧ r.2.mem ((c.tc : Thread nD τ).loc main_v5_1) = (fun y : S12x1024.Idx => (row m c (y 0) (y 1)).scK)
      ∧ r.2.mem ((c.tc : Thread nD τ).loc main_v5_2) = (fun y : S12288x320.Idx => (rowAt m c (y 0)).mask (y 1))
      ∧ r.2.mem ((c.tc : Thread nD τ).loc main_v5_3) = (fun y : S12x1024.Idx => (row m c (y 0) (y 1)).rs)
      ∧ r.2.mem ((c.tc : Thread nD τ).loc main_v5_4) = (fun y : S12288x2560.Idx => (rowAt m c (y 0)).h (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => h.1) (run_quiescent m ρ)

/-- The program runs, its argument arrays end unchanged, and every semaphore counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2.2.2.2.2, h.2⟩) (run_quiescent m ρ)

end Cert.KernelIdeal.Hand

end
-- ==== Proof.Tie.lean ====
/- The kernel's results and the reference's, row by row. -/
module

public import proofs.«01_k».proof.Defs
public import proofs.«01_k».proof.Proof.Scale
public import proofs.«01_k».proof.Proof.RefRows
public import proofs.«01_k».proof.Proof.KernelIdealFinal
public import Idealize.ShloMosaic.Lib.ReduceAll

@[expose] public section

set_option maxRecDepth 16384

noncomputable section

namespace Cert.Pre_gamma_finite

open Idealize.ShloMosaic

theorem bcast_S_S2560' : S_.BroadcastsInDim S2560 (![] : Fin 0 → Fin S2560.rank) := by decide

theorem reducesTo_S2560_S_d0' : S2560.ReducesTo [0] S_ := by decide

theorem h_S_' : 0 < S_.numel := by decide

instance facts : Facts := ⟨bcast_S_S2560', reducesTo_S2560_S_d0', h_S_'⟩

instance : Subsingleton S_.Idx := ⟨fun _ _ => funext fun a => a.elim0⟩

/-- Under the precondition no entry of the scale vector exceeds the largest finite f32. -/
theorem bound (x a : FVec Ideal S12x1024x2560 .bf16) (b : FVec Ideal S2560 .f32) (w : IVec S12x1024x2560 32) (g : FVec Ideal S2560 .f32)
    (h : fn (F := Ideal) x a b w g = fun _ => 1#1) (j : S2560.Idx) :
    max (α := EReal) (g j) (-(g j : EReal)) ≤ Ideal.ofBits .f32 0x7F7FFFFF#32 := by
  have h0 := congrFun h (fun a => a.elim0)
  dsimp only [fn] at h0
  have h1 := Host.reduce_andi_all _ _ _ _ _ h0 j
  have h2 : BitVec.ofBool (decide (max (α := EReal) (g j) (-(g j : EReal)) ≤ Ideal.ofBits .f32 0x7F7FFFFF#32)) = 1#1 := h1
  by_contra hn
  rw [decide_eq_false hn] at h2
  exact absurd h2 (by decide)

end Cert.Pre_gamma_finite

namespace Cert.ReferenceIdeal.Hand

open Cert.ReferenceIdeal Cert.ReferenceIdeal.Gen Cert.Hand
open Idealize.ShloMosaic Idealize.ShloMosaic.TcCoe Idealize.SL.Sem

variable (m : (ℓ : Loc nD τ sig) → Buf (Elt Ideal) ℓ) (ρ : Dev nD → PrngReg)

theorem ix2_eta_scales (y : S12x1024.Idx) : y = ix2 (y 0) (y 1) := by
  funext a
  match a with
  | ⟨0, _⟩ => rfl
  | ⟨1, _⟩ => rfl

theorem ix2_eta_mask (y : S12288x320.Idx) : y = ix2 (y 0) (y 1) := by
  funext a
  match a with
  | ⟨0, _⟩ => rfl
  | ⟨1, _⟩ => rfl

/-- The reference runs, its results are the rows' results, and its argument arrays end unchanged. -/
theorem run : θ_run defs (onTc (τ := τ) (main (F := Ideal))) ⟨m, fun _ => 0, ρ⟩ (fun r => ∀ c : Dev nD,
      r.2.mem ((c.tc : Thread nD τ).loc main_v63) = (fun y : S12288x2560.Idx => (rowAt m c (y 0)).code (y 1))
      ∧ r.2.mem ((c.tc : Thread nD τ).loc main_v44) = (fun y : S12x1024.Idx => (row m c (y 0) (y 1)).sc)
      ∧ r.2.mem ((c.tc : Thread nD τ).loc main_v60) = (fun y : S12288x320.Idx => (rowAt m c (y 0)).mask (y 1))
      ∧ r.2.mem ((c.tc : Thread nD τ).loc main_v19) = (fun y : S12x1024.Idx => (row m c (y 0) (y 1)).rs)
      ∧ r.2.mem ((c.tc : Thread nD τ).loc main_v61) = (fun y : S12288x2560.Idx => (rowAt m c (y 0)).h (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨(Value.post1 m r h c).trans (codes_eq m c), ?_, ?_, ?_, ?_,
    Value.kept_main_arg0 m r h c, Value.kept_main_arg1 m r h c, Value.kept_main_arg2 m r h c,
    Value.kept_main_arg3 m r h c, Value.kept_main_arg4 m r h c⟩) (Gen.run_main m ρ)
  · refine ((h c).2 main_v44 (Pipeline.mem_restRefs_of main_v44 (by decide) (by decide))).trans ?_
    exact funext fun y => (congrArg (V m c main_v44) (ix2_eta_scales y)).trans (sc_at m c _ _)
  · refine ((h c).2 main_v60 (Pipeline.mem_restRefs_of main_v60 (by decide) (by decide))).trans ?_
    exact funext fun y => (congrArg (V m c main_v60) (ix2_eta_mask y)).trans (mask_at m c _ _)
  · refine ((h c).2 main_v19 (Pipeline.mem_restRefs_of main_v19 (by decide) (by decide))).trans ?_
    exact funext fun y => (congrArg (V m c main_v19) (ix2_eta_scales y)).trans (rstd_at m c _ _)
  · refine ((h c).2 main_v61 (Pipeline.mem_restRefs_of main_v61 (by decide) (by decide))).trans ?_
    exact funext fun y => (congrArg (V m c main_v61) (ix2_eta y)).trans (h_at m c _ _)

end Cert.ReferenceIdeal.Hand

namespace Cert.Hand

open Idealize.ShloMosaic Idealize.SL.Sem

/-- From memories that agree on the arguments, under the precondition, both programs end with the same five results. -/
theorem algebraic : Cert.algebraic_KernelIdeal_ReferenceIdeal_pre_gamma_finite := by
  intro m g m' g' hpre hagree
  have hrow : ∀ c b s, Cert.ReferenceIdeal.Hand.row m' c b s = Cert.KernelIdeal.Hand.row m c b s := by
    intro c b s
    obtain ⟨h0, h1, h2, h3, h4⟩ := hagree c
    unfold Cert.ReferenceIdeal.Hand.row Cert.KernelIdeal.Hand.row
    congr 1 <;> funext j
    · exact congrFun h0 _
    · exact congrFun h1 _
    · exact congrFun h2 _
    · exact congrFun h3 _
    · exact congrFun h4 _
  have hg : ∀ c b s j, max ((Cert.KernelIdeal.Hand.row m c b s).g j) (-(Cert.KernelIdeal.Hand.row m c b s).g j) ≤
      Ideal.ofBits .f32 0x7F7FFFFF#32 := fun c b s j => Cert.Pre_gamma_finite.bound _ _ _ _ _ (hpre c) (ix1 j)
  refine ⟨_, _, _, _, _, Cert.KernelIdeal.Hand.run m g, ?_⟩
  refine (θ_run Cert.ReferenceIdeal.defs _ _).mono (fun r h c => ?_) (Cert.ReferenceIdeal.Hand.run m' g')
  obtain ⟨r0, r1, r2, r3, r4, hk⟩ := h c
  refine ⟨r0.trans (funext fun y => ?_), r1.trans (funext fun y => ?_), r2.trans (funext fun y => ?_),
    r3.trans (funext fun y => ?_), r4.trans (funext fun y => ?_), hk⟩
  · exact (congrArg (fun R : RowIn => R.code (y 1)) (hrow c _ _)).trans (RowIn.code_eq _ (hg c _ _) _).symm
  · exact (congrArg RowIn.sc (hrow c _ _)).trans (RowIn.sc_eq _ (hg c _ _)).1.symm
  · exact congrArg (fun R : RowIn => R.mask (y 1)) (hrow c _ _)
  · exact congrArg RowIn.rs (hrow c _ _)
  · exact congrArg (fun R : RowIn => R.h (y 1)) (hrow c _ _)

end Cert.Hand

end
-- ==== Proof.lean ====
module

public import proofs.«01_k».proof.Defs
public import proofs.«01_k».proof.Proof.KernelFrame
public import proofs.«01_k».proof.Proof.Gen.ReferenceIdeal.Frame
public import proofs.«01_k».proof.Proof.Gen.ReferenceIdeal.Value
public import proofs.«01_k».proof.Proof.Tie

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_gamma_finite.facts,
  fun m g _ => Cert.Kernel.Hand.frame m g,
  fun m g _ => Cert.KernelIdeal.Hand.frame m g,
  fun m g _ => Cert.KernelIdeal.Hand.frame m g,
  fun m g _ => Cert.ReferenceIdeal.Gen.frame m g,
  fun m g _ => Cert.ReferenceIdeal.Gen.frame m g,
  trivial,
  Cert.Hand.algebraic⟩

end Cert.Proof

end
